-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4x2048x2048 : Shape := ⟨3, ![4, 2048, 2048]⟩
abbrev S4x2048 : Shape := ⟨2, ![4, 2048]⟩
abbrev S4x2048x129 : Shape := ⟨3, ![4, 2048, 129]⟩
abbrev S4x2048x1 : Shape := ⟨3, ![4, 2048, 1]⟩
abbrev S_ : Shape := ⟨0, ![]⟩

class Facts : Prop where
  sliceFits_S4x2048x2048_S4x2048x129 : S4x2048x2048.Slices (fun _ => 0) S4x2048x129
  slices_S4x2048x129_S4x2048x1_0_0_127 : S4x2048x129.Slices ![0, 0, 127] S4x2048x1
  shapeCasts_S4x2048x1_S4x2048 : S4x2048x1.ShapeCasts S4x2048
  slices_S4x2048x129_S4x2048x1_0_0_128 : S4x2048x129.Slices ![0, 0, 128] S4x2048x1
  bcast_S_S4x2048 : S_.BroadcastsInDim S4x2048 (![] : Fin 0 → Fin S4x2048.rank)
  dot_S4x2048x2048_S4x2048x2048_S4x2048x2048_2_2_1_1_0_0_wf : DotDims.WF S4x2048x2048 S4x2048x2048 S4x2048x2048 [2] [2] [1] [1] [0] [0]

variable [Facts]

def dot_S4x2048x2048_S4x2048x2048_S4x2048x2048_2_2_1_1_0_0 : DotDims S4x2048x2048 S4x2048x2048 S4x2048x2048 where
  lhsContracting := [2]
  rhsContracting := [2]
  lhsNonContracting := [1]
  rhsNonContracting := [1]
  lhsBatch := [0]
  rhsBatch := [0]
  wf := dot_S4x2048x2048_S4x2048x2048_S4x2048x2048_2_2_1_1_0_0_wf
def fn {F : FTy → Type} [FloatOps F] (main_arg0 : FVec F S4x2048x2048 .f32) (main_arg1 : FVec F S4x2048 .f32) : IVec S4x2048 1 :=
  let main_v0 : FVec F S4x2048x2048 .f32 := (fun l r => Host.dotGeneral dot_S4x2048x2048_S4x2048x2048_S4x2048x2048_2_2_1_1_0_0 none l r) main_arg0 main_arg0
  let main_values : FVec F S4x2048x129 .f32 := (fun x => (Host.topK S4x2048x129 2 (FloatOps.cmpfTotal .gt) x sliceFits_S4x2048x2048_S4x2048x129).1) main_v0
  let main_indices : IVec S4x2048x129 32 := (fun x => (Host.topK S4x2048x129 2 (FloatOps.cmpfTotal .gt) x sliceFits_S4x2048x2048_S4x2048x129).2) main_v0
  let main_v1 : FVec F S4x2048x1 .f32 := (extractStridedSlice S4x2048x1 ![0, 0, 127] · slices_S4x2048x129_S4x2048x1_0_0_127) main_values
  let main_v2 : FVec F S4x2048 .f32 := shapeCast S4x2048 main_v1 shapeCasts_S4x2048x1_S4x2048
  let main_v3 : FVec F S4x2048x1 .f32 := (extractStridedSlice S4x2048x1 ![0, 0, 128] · slices_S4x2048x129_S4x2048x1_0_0_128) main_values
  let main_v4 : FVec F S4x2048 .f32 := shapeCast S4x2048 main_v3 shapeCasts_S4x2048x1_S4x2048
  let main_v5 : FVec F S4x2048 .f32 := Host.absf main_v2
  let main_cst : FVec F S_ .f32 := constant S_ .f32 0x7F7FFFFF#32
  let main_v6 : FVec F S4x2048 .f32 := broadcastInDim S4x2048 ![] bcast_S_S4x2048 main_cst
  let main_v7 : IVec S4x2048 1 := cmpf .ole main_v5 main_v6
  let main_v8 : FVec F S4x2048 .f32 := subf main_v2 main_v4
  let main_v9 : FVec F S4x2048 .f32 := Host.absf main_v2
  let main_cst_0 : FVec F S_ .f32 := constant S_ .f32 0x00800000#32
  let main_v10 : FVec F S4x2048 .f32 := broadcastInDim S4x2048 ![] bcast_S_S4x2048 main_cst_0
  let main_v11 : FVec F S4x2048 .f32 := maximumf main_v9 main_v10
  let main_cst_1 : FVec F S_ .f32 := constant S_ .f32 0x34000000#32
  let main_v12 : FVec F S4x2048 .f32 := broadcastInDim S4x2048 ![] bcast_S_S4x2048 main_cst_1
  let main_v13 : FVec F S4x2048 .f32 := mulf main_v12 main_v11
  let main_v14 : IVec S4x2048 1 := cmpf .oge main_v8 main_v13
  let main_v15 : IVec S4x2048 1 := andi main_v7 main_v14
  main_v15
-- ==== Kernel.lean ====
abbrev S4x2048x2048 : Shape := ⟨3, ![4, 2048, 2048]⟩
abbrev S4x2048 : Shape := ⟨2, ![4, 2048]⟩
abbrev S4x1x2048 : Shape := ⟨3, ![4, 1, 2048]⟩
abbrev S4x8x1x256 : Shape := ⟨4, ![4, 8, 1, 256]⟩
abbrev S1x256x2048 : Shape := ⟨3, ![1, 256, 2048]⟩
abbrev S1x2048x2048 : Shape := ⟨3, ![1, 2048, 2048]⟩
abbrev S1x1x2048 : Shape := ⟨3, ![1, 1, 2048]⟩
abbrev S1x1x1x256 : Shape := ⟨4, ![1, 1, 1, 256]⟩
abbrev S256x2048 : Shape := ⟨2, ![256, 2048]⟩
abbrev S2048x2048 : Shape := ⟨2, ![2048, 2048]⟩
abbrev S2048x256 : Shape := ⟨2, ![2048, 256]⟩
abbrev S1x256 : Shape := ⟨2, ![1, 256]⟩
abbrev S256 : Shape := ⟨1, ![256]⟩
abbrev S1x2048 : Shape := ⟨2, ![1, 2048]⟩
abbrev S2048x1 : Shape := ⟨2, ![2048, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x1x2048, .f32⟩
  | .hbm, ⟨3, _⟩ => ⟨S4x2048x2048, .f32⟩
  | .hbm, ⟨4, _⟩ => ⟨S4x8x1x256, .f32⟩
  | .hbm, ⟨5, _⟩ => ⟨S4x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x2048, .f32⟩
  | .local _ .vmem, ⟨3, _⟩ => ⟨S1x2048x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x1x1x256, .f32⟩
  | .local _ .vmem, ⟨9, _⟩ => ⟨S1x1x1x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0_1 : Ref sig .tc := ⟨.hbm, 3, rfl⟩
abbrev main_call0_v1_1 : Ref sig .tc := ⟨.hbm, 4, rfl⟩
abbrev main_v0_0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_5 : BitVec 32 := 0#32
  let c32_i32 : BitVec 32 := 32#32
  let v6 : BitVec 32 := Scalar.addi c0_i32_5 c32_i32
  let c1_i32 : BitVec 32 := 1#32
  ⟨c0_i32_5, v6, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048x2048 : Shape := ⟨3, ![4, 2048, 2048]⟩
abbrev S4x2048 : Shape := ⟨2, ![4, 2048]⟩
abbrev S4x2048x128 : Shape := ⟨3, ![4, 2048, 128]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S_ : Shape := ⟨0, ![]⟩
abbrev S4x2048x128x1 : Shape := ⟨4, ![4, 2048, 128, 1]⟩
abbrev S4x2048x128x3 : Shape := ⟨4, ![4, 2048, 128, 3]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048x2048, .f32⟩
  | .hbm, ⟨3, _⟩ => ⟨S4x2048x128, .f32⟩
  | .hbm, ⟨4, _⟩ => ⟨S4x2048x128, .i32⟩
  | .hbm, ⟨5, _⟩ => ⟨S4, .i32⟩
  | .hbm, ⟨6, _⟩ => ⟨S4x1x1, .i32⟩
  | .hbm, ⟨7, _⟩ => ⟨S2048, .i32⟩
  | .hbm, ⟨8, _⟩ => ⟨S1x2048x1, .i32⟩
  | .hbm, ⟨9, _⟩ => ⟨S_, .i1⟩
  | .hbm, ⟨10, _⟩ => ⟨S4x2048x2048, .i1⟩
  | .hbm, ⟨11, _⟩ => ⟨S_, .i32⟩
  | .hbm, ⟨12, _⟩ => ⟨S4x1x1, .i32⟩
  | .hbm, ⟨13, _⟩ => ⟨S4x1x1, .i1⟩
  | .hbm, ⟨14, _⟩ => ⟨S_, .i32⟩
  | .hbm, ⟨15, _⟩ => ⟨S4x1x1, .i32⟩
  | .hbm, ⟨16, _⟩ => ⟨S4x1x1, .i32⟩
  | .hbm, ⟨17, _⟩ => ⟨S4x1x1, .i32⟩
  | .hbm, ⟨18, _⟩ => ⟨S_, .i32⟩
  | .hbm, ⟨19, _⟩ => ⟨S1x2048x1, .i32⟩
  | .hbm, ⟨20, _⟩ => ⟨S1x2048x1, .i1⟩
  | .hbm, ⟨21, _⟩ => ⟨S_, .i32⟩
  | .hbm, ⟨22, _⟩ => ⟨S1x2048x1, .i32⟩
  | .hbm, ⟨23, _⟩ => ⟨S1x2048x1, .i32⟩
  | .hbm, ⟨24, _⟩ => ⟨S1x2048x1, .i32⟩
  | .hbm, ⟨25, _⟩ => ⟨S_, .i32⟩
  | .hbm, ⟨26, _⟩ => ⟨S4x2048x128, .i32⟩
  | .hbm, ⟨27, _⟩ => ⟨S4x2048x128, .i1⟩
  | .hbm, ⟨28, _⟩ => ⟨S_, .i32⟩
  | .hbm, ⟨29, _⟩ => ⟨S4x2048x128, .i32⟩
  | .hbm, ⟨30, _⟩ => ⟨S4x2048x128, .i32⟩
  | .hbm, ⟨31, _⟩ => ⟨S4x2048x128, .i32⟩
  | .hbm, ⟨32, _⟩ => ⟨S4x2048x128, .i32⟩
  | .hbm, ⟨33, _⟩ => ⟨S4x2048x128, .i32⟩
  | .hbm, ⟨34, _⟩ => ⟨S4x2048x128x1, .i32⟩
  | .hbm, ⟨35, _⟩ => ⟨S4x2048x128x1, .i32⟩
  | .hbm, ⟨36, _⟩ => ⟨S4x2048x128x1, .i32⟩
  | .hbm, ⟨37, _⟩ => ⟨S4x2048x128x3, .i32⟩
  | .hbm, ⟨38, _⟩ => ⟨S_, .i1⟩
  | .hbm, ⟨39, _⟩ => ⟨S4x2048x128, .i1⟩
  | .hbm, ⟨40, _⟩ => ⟨S4x2048x2048, .i1⟩
  | .hbm, ⟨41, _⟩ => ⟨S4x2048x2048, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S_, .f32⟩
  | .hbm, ⟨48, _⟩ => ⟨S4x2048x2048, .f32⟩
  | .hbm, ⟨49, _⟩ => ⟨S4x2048x2048, .f32⟩
  | .hbm, ⟨50, _⟩ => ⟨S4x2048, .f32⟩
  | .hbm, ⟨51, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.Grid.lean ====
/-
  The grid of binary32 magnitudes, as real numbers.

  A bit pattern without its sign is a number `n`: its upper part `n / 2^23` the exponent field, its lower part
  `n % 2^23` the fraction. `mag n` is the real number such a pattern denotes, `ulp n` the distance to the next pattern's.
  Proved here: the patterns are in the order of what they denote, a step is at most `2^-23` of the number (of the
  least normal number below that one), every real number in range lies between two neighbours.
-/
module

public import Idealize.ShloMosaic.PureOps
public import Mathlib.Data.EReal.Operations
public import Mathlib.Tactic.Linarith
public import Mathlib.Tactic.NormNum
public import Mathlib.Tactic.Positivity
public import Mathlib.Tactic.Ring
public import Mathlib.Order.Monotone.Basic

@[expose] public section

noncomputable section

namespace Cert.Grid

/-- What the pattern `n` (sign bit off) denotes. -/
def mag (n : ℕ) : ℝ :=
  if n / 8388608 = 0 then ((n % 8388608 : ℕ) : ℝ) * (2 : ℝ) ^ (-149 : ℤ)
  else ((8388608 + n % 8388608 : ℕ) : ℝ) * (2 : ℝ) ^ (((n / 8388608 : ℕ) : ℤ) - 150)

/-- The distance from pattern `n` to the next one. -/
def ulp (n : ℕ) : ℝ := (2 : ℝ) ^ (((max (n / 8388608) 1 : ℕ) : ℤ) - 150)

theorem ulp_pos (n : ℕ) : 0 < ulp n := by unfold ulp; exact zpow_pos (by norm_num) _

theorem mag_zero : mag 0 = 0 := by simp [mag]

theorem mag_succ (n : ℕ) : mag (n + 1) = mag n + ulp n := by
  have hd : n = 8388608 * (n / 8388608) + n % 8388608 := (Nat.div_add_mod n 8388608).symm
  have hf : n % 8388608 < 8388608 := Nat.mod_lt _ (by norm_num)
  generalize he : n / 8388608 = e at hd
  generalize hr : n % 8388608 = f at hd hf
  by_cases hc : f + 1 = 8388608
  · have h1 : (n + 1) / 8388608 = e + 1 := by omega
    have h2 : (n + 1) % 8388608 = 0 := by omega
    unfold mag ulp
    rw [h1, h2, he, hr]
    have hfr : (f : ℝ) = 8388607 := by
      have : f = 8388607 := by omega
      rw [this]; norm_num
    rcases Nat.eq_zero_or_pos e with h0 | h0
    · subst h0
      simp only [zero_add, if_neg (one_ne_zero), if_true]
      rw [hfr]
      norm_num
    · have hm : max e 1 = e := by omega
      rw [if_neg (by omega), if_neg (by omega), hm]
      push_cast
      rw [hfr, show ((e : ℤ) + 1 - 150) = ((e : ℤ) - 150) + 1 by ring, zpow_add₀ (by norm_num : (2 : ℝ) ≠ 0), zpow_one]
      ring
  · have h1 : (n + 1) / 8388608 = e := by omega
    have h2 : (n + 1) % 8388608 = f + 1 := by omega
    unfold mag ulp
    rw [h1, h2, he, hr]
    rcases Nat.eq_zero_or_pos e with h0 | h0
    · subst h0
      simp only [if_true]
      push_cast
      norm_num
      ring
    · have hm : max e 1 = e := by omega
      rw [if_neg (by omega), if_neg (by omega), hm]
      push_cast
      ring

theorem mag_strictMono : StrictMono mag :=
  strictMono_nat_of_lt_succ fun n => by rw [mag_succ]; linarith [ulp_pos n]

theorem mag_nonneg (n : ℕ) : 0 ≤ mag n := by
  rw [← mag_zero]; exact mag_strictMono.monotone (Nat.zero_le n)

/-- A step is at most `2^-23` of the number, or of the least normal number. -/
theorem ulp_le (n : ℕ) : ulp n ≤ (2 : ℝ) ^ (-23 : ℤ) * max (mag n) ((2 : ℝ) ^ (-126 : ℤ)) := by
  unfold ulp
  rcases Nat.eq_zero_or_pos (n / 8388608) with h0 | h0
  · rw [h0]
    have : (2 : ℝ) ^ (-23 : ℤ) * (2 : ℝ) ^ (-126 : ℤ) ≤ (2 : ℝ) ^ (-23 : ℤ) * max (mag n) ((2 : ℝ) ^ (-126 : ℤ)) :=
      mul_le_mul_of_nonneg_left (le_max_right _ _) (by positivity)
    refine le_trans (le_of_eq ?_) this
    rw [← zpow_add₀ (by norm_num : (2 : ℝ) ≠ 0)]; norm_num
  · have hm : max (n / 8388608) 1 = n / 8388608 := by omega
    rw [hm]
    have h1 : (2 : ℝ) ^ (23 : ℤ) * (2 : ℝ) ^ (((n / 8388608 : ℕ) : ℤ) - 150) ≤ mag n := by
      unfold mag
      rw [if_neg (by omega)]
      refine mul_le_mul_of_nonneg_right ?_ (zpow_pos (by norm_num) _).le
      push_cast
      have : (0 : ℝ) ≤ ((n % 8388608 : ℕ) : ℝ) := Nat.cast_nonneg _
      norm_num at this ⊢
    have h2 : (2 : ℝ) ^ (-23 : ℤ) * ((2 : ℝ) ^ (23 : ℤ) * (2 : ℝ) ^ (((n / 8388608 : ℕ) : ℤ) - 150))
        ≤ (2 : ℝ) ^ (-23 : ℤ) * max (mag n) ((2 : ℝ) ^ (-126 : ℤ)) :=
      mul_le_mul_of_nonneg_left (le_trans h1 (le_max_left _ _)) (by positivity)
    refine le_trans (le_of_eq ?_) h2
    rw [← mul_assoc, ← zpow_add₀ (by norm_num : (2 : ℝ) ≠ 0)]; norm_num

/-- The greatest finite pattern denotes `(2^24 - 1) 2^104`; the pattern after it would denote `2^128`. -/
theorem mag_top : mag 2139095039 = 16777215 * (2 : ℝ) ^ (104 : ℤ) := by
  unfold mag; norm_num

/-- A nonnegative real below a pattern's number lies between two neighbouring patterns. -/
theorem exists_floor (N : ℕ) (x : ℝ) (h0 : 0 ≤ x) (hN : x < mag N) : ∃ n, n < N ∧ mag n ≤ x ∧ x < mag (n + 1) := by
  induction N with
  | zero => rw [mag_zero] at hN; linarith
  | succ N ih =>
    by_cases h : x < mag N
    · obtain ⟨n, hn, h1, h2⟩ := ih h; exact ⟨n, by omega, h1, h2⟩
    · exact ⟨N, by omega, not_lt.1 h, hN⟩

/-- A positive real up to a pattern's number lies between two neighbouring patterns, the upper one included. -/
theorem exists_ceil (N : ℕ) (x : ℝ) (h0 : 0 < x) (hN : x ≤ mag N) : ∃ n, n < N ∧ mag n < x ∧ x ≤ mag (n + 1) := by
  induction N with
  | zero => rw [mag_zero] at hN; linarith
  | succ N ih =>
    by_cases h : x ≤ mag N
    · obtain ⟨n, hn, h1, h2⟩ := ih h; exact ⟨n, by omega, h1, h2⟩
    · exact ⟨N, by omega, not_le.1 h, hN⟩

end Cert.Grid

end
-- ==== Proof.Threshold.lean ====
/-
  The thresholds the kernel's search tries, as extended reals.

  The search keeps a word `p`; the word with its top bit flipped is read as a sort key, the key back as a binary32
  pattern, the pattern as a number: `thr p`. Read as an unsigned number, `p` runs through the patterns in the order
  of what they denote: the patterns with the sign bit, farthest from zero first, below `2^31`, the others from `2^31`
  up. From `infKey`, the word of plus infinity, on there are only patterns that denote no number.
-/
module

public import Idealize.ShloMosaic.PureOps
public import Idealize.ShloMosaic.PureOps.Ideal
public import Idealize.ShloMosaic.Lib.SortKey
public import proofs.«01_k».proof.Proof.Grid

@[expose] public section

noncomputable section

namespace Cert.Threshold

open Idealize.ShloMosaic Cert.Grid

/-- The threshold of the search word `p`. -/
def thr (p : BitVec 32) : EReal := Ideal.ofBits .f32 (sortableKey (p ^^^ 2147483648#32))

/-- The search word of plus infinity. -/
def infKey : ℕ := 4286578688

/-- What a pattern denotes, by its sign and its other bits. -/
def dec (neg : Bool) (n : ℕ) : EReal :=
  if n < 2139095040 then (((if neg then -1 else 1 : ℝ) * mag n : ℝ) : EReal)
  else if n = 2139095040 then (if neg then ⊥ else ⊤) else ⊥

theorem ofBits_eq_dec (w : BitVec 32) : Ideal.ofBits .f32 w = dec w.msb (w.toNat % 2147483648) := by
  have hx : (w.extractLsb' 23 8).toNat = w.toNat % 2147483648 / 8388608 := by
    rw [BitVec.extractLsb'_toNat, Nat.shiftRight_eq_div_pow]; omega
  have hf : (w.extractLsb' 0 23).toNat = w.toNat % 2147483648 % 8388608 := by
    rw [BitVec.extractLsb'_toNat, Nat.shiftRight_eq_div_pow]; omega
  have hs : (w.extractLsb' 31 1 == 1#1) = w.msb := by
    rw [BitVec.msb_eq_decide, Bool.eq_iff_iff, beq_iff_eq, decide_eq_true_iff, ← BitVec.toNat_inj, BitVec.extractLsb'_toNat,
      Nat.shiftRight_eq_div_pow]
    have := w.isLt
    simp only [BitVec.toNat_ofNat]
    omega
  have hlt : w.toNat % 2147483648 < 2147483648 := Nat.mod_lt _ (by norm_num)
  show Ideal.ieee 8 23 w = _
  unfold Ideal.ieee dec
  simp only [hx, hf]
  rw [show (8 + 23 : ℕ) = 31 from rfl, hs]
  generalize w.toNat % 2147483648 = n at hlt
  generalize w.msb = s
  by_cases h1 : n < 2139095040
  · rw [if_pos h1, if_neg (by omega)]
    unfold mag
    by_cases h0 : n / 8388608 = 0
    · rw [if_pos h0, if_pos h0]
      congr 1
      rw [← mul_assoc]
      norm_num
    · rw [if_neg h0, if_neg h0]
      congr 1
      rw [← mul_assoc]
      congr 2
      push_cast
      ring
  · rw [if_neg h1, if_pos (by omega)]
    by_cases h2 : n = 2139095040
    · rw [if_pos h2, if_pos (by omega)]
    · rw [if_neg h2, if_neg (by omega)]

/-- Flipping the top bit. -/
theorem flip_eq (p : BitVec 32) : p ^^^ 2147483648#32 = BitVec.cons (!p.msb) (p.setWidth 31) := by
  conv_lhs => rw [← BitVec.cons_msb_setWidth p]
  rw [show (2147483648#32 : BitVec 32) = BitVec.cons true 0#31 from by decide, BitVec.cons_xor_cons]
  simp

theorem toNat_cons31 (b : Bool) (y : BitVec 31) : (BitVec.cons b y).toNat = (if b then 2147483648 else 0) + y.toNat := by
  rw [BitVec.toNat_cons', Nat.shiftLeft_eq]
  cases b <;> simp

/-- The threshold of a word, by its place among the words: the patterns without the sign bit, upwards from `2^31`, -/
theorem thr_high (p : BitVec 32) (h : 2147483648 ≤ p.toNat) : thr p = dec false (p.toNat - 2147483648) := by
  have hm : p.msb = true := by rw [BitVec.msb_eq_true_iff_two_mul_ge]; omega
  have hp := p.isLt
  unfold thr
  rw [flip_eq, hm, sortableKey_of_msb_false _ (by simp), ofBits_eq_dec]
  refine congrArg₂ dec ?_ ?_
  · simp
  · rw [toNat_cons31, BitVec.toNat_setWidth]; simp; omega

/-- and those with it, downwards below. -/
theorem thr_low (p : BitVec 32) (h : p.toNat < 2147483648) : thr p = dec true (2147483647 - p.toNat) := by
  have hm : p.msb = false := by rw [BitVec.msb_eq_false_iff_two_mul_lt]; omega
  unfold thr
  rw [flip_eq, hm, sortableKey_of_msb_true _ (by simp), ofBits_eq_dec,
    show (2147483647#32 : BitVec 32) = BitVec.cons false (BitVec.allOnes 31) from by decide, BitVec.cons_xor_cons, BitVec.xor_allOnes]
  refine congrArg₂ dec ?_ ?_
  · simp
  · rw [toNat_cons31, BitVec.toNat_not, BitVec.toNat_setWidth]; simp; omega

/-- The threshold at a place. -/
def level (p : ℕ) : EReal := thr (BitVec.ofNat 32 p)

theorem level_high (n : ℕ) (h : n < 2139095040) : level (2147483648 + n) = ((mag n : ℝ) : EReal) := by
  have e : (BitVec.ofNat 32 (2147483648 + n)).toNat = 2147483648 + n := by rw [BitVec.toNat_ofNat]; omega
  unfold level
  rw [thr_high _ (by omega), e, Nat.add_sub_cancel_left, dec, if_pos h]
  simp

theorem level_inf : level infKey = ⊤ := by
  unfold level infKey
  rw [thr_high _ (by simp)]
  simp [dec]

theorem level_low (n : ℕ) (h : n < 2139095040) : level (2147483647 - n) = ((-mag n : ℝ) : EReal) := by
  have e : (BitVec.ofNat 32 (2147483647 - n)).toNat = 2147483647 - n := by rw [BitVec.toNat_ofNat]; omega
  unfold level
  rw [thr_low _ (by omega), e, show 2147483647 - (2147483647 - n) = n by omega, dec, if_pos h]
  simp

theorem level_bottom (p : ℕ) (h : p < 8388608) : level p = ⊥ := by
  have e : (BitVec.ofNat 32 p).toNat = p := by rw [BitVec.toNat_ofNat]; omega
  unfold level
  rw [thr_low _ (by omega), e, dec, if_neg (by omega)]
  simp

/-- Up to plus infinity the thresholds rise with the words. -/
theorem level_mono (p q : ℕ) (h : p ≤ q) (hq : q ≤ infKey) : level p ≤ level q := by
  rcases eq_or_lt_of_le hq with rfl | hq
  · rw [level_inf]; exact le_top
  unfold infKey at hq
  by_cases hb : p < 8388608
  · rw [level_bottom p hb]; exact bot_le
  by_cases hp : 2147483648 ≤ p
  · obtain ⟨a, rfl⟩ := Nat.exists_eq_add_of_le hp
    obtain ⟨b, rfl⟩ := Nat.exists_eq_add_of_le (le_trans hp h)
    rw [level_high a (by omega), level_high b (by omega), EReal.coe_le_coe_iff]
    exact mag_strictMono.monotone (by omega)
  · have ep : p = 2147483647 - (2147483647 - p) := by omega
    by_cases hq' : 2147483648 ≤ q
    · obtain ⟨b, rfl⟩ := Nat.exists_eq_add_of_le hq'
      rw [ep, level_low _ (by omega), level_high b (by omega), EReal.coe_le_coe_iff]
      linarith [mag_nonneg b, mag_nonneg (2147483647 - p)]
    · have eq : q = 2147483647 - (2147483647 - q) := by omega
      rw [ep, eq, level_low _ (by omega), level_low _ (by omega), EReal.coe_le_coe_iff]
      exact neg_le_neg (mag_strictMono.monotone (by omega))

/-- Under every real number of a finite binary32 magnitude there is a threshold closer than the spacing of the
    binary32 numbers there. -/
theorem exists_near (x : ℝ) (hx : |x| ≤ mag 2139095039) :
    ∃ q, q < infKey ∧ ∃ y : ℝ, level q = (y : EReal) ∧ y ≤ x ∧
      x - y < (2 : ℝ) ^ (-23 : ℤ) * max |x| ((2 : ℝ) ^ (-126 : ℤ)) := by
  have key : ∀ n z : ℝ, n ≤ z → (2 : ℝ) ^ (-23 : ℤ) * max n ((2 : ℝ) ^ (-126 : ℤ))
      ≤ (2 : ℝ) ^ (-23 : ℤ) * max z ((2 : ℝ) ^ (-126 : ℤ)) := fun n z h =>
    mul_le_mul_of_nonneg_left (max_le_max_right _ h) (zpow_pos (by norm_num) _).le
  rcases le_or_gt 0 x with h | h
  · rw [abs_of_nonneg h] at hx ⊢
    obtain ⟨n, hn, h1, h2⟩ := exists_floor 2139095040 x h (lt_of_le_of_lt hx (mag_strictMono (by norm_num)))
    refine ⟨2147483648 + n, by unfold infKey; omega, mag n, level_high n hn, h1, ?_⟩
    have := mag_succ n
    linarith [ulp_le n, key _ _ h1]
  · rw [abs_of_neg h] at hx ⊢
    obtain ⟨n, hn, h1, h2⟩ := exists_ceil 2139095039 (-x) (by linarith) hx
    refine ⟨2147483647 - (n + 1), by unfold infKey; omega, -mag (n + 1), level_low (n + 1) (by omega), by linarith, ?_⟩
    have := mag_succ n
    linarith [ulp_le n, key _ _ h1.le]

end Cert.Threshold

end
-- ==== Proof.Search.lean ====
/-
  The bitwise search for the greatest word with a property.

  From zero, thirty-two trips set one bit after another, the top one first, and keep it when the word still has the
  property. Of a property that passes from a word to every smaller one (as far as the word of plus infinity, which lacks
  it) this finds the greatest word that has it.
-/
module

public import proofs.«01_k».proof.Proof.Threshold

@[expose] public section

noncomputable section

namespace Cert.Search

open Idealize.ShloMosaic Cert.Threshold

/-- What the trips keep true holds after the last. -/
theorem foldl_finRange {σ : Type} : ∀ (n : ℕ) (g : Fin n → σ → σ) (Inv : ℕ → σ → Prop) (a : σ), Inv 0 a →
    (∀ (k : Fin n) (x : σ), Inv k x → Inv (k + 1) (g k x)) → Inv n ((List.finRange n).foldl (fun x k => g k x) a)
  | 0, _, _, a, h0, _ => by simpa using h0
  | n + 1, g, Inv, a, h0, hs => by
    rw [List.finRange_succ, List.foldl_cons, List.foldl_map]
    exact foldl_finRange n (fun k => g k.succ) (fun t => Inv (t + 1)) (g 0 a) (hs 0 a h0) (fun k x h => hs k.succ x h)

theorem infKey_dvd (j : ℕ) (h : j ≤ 23) : 2 ^ j ∣ infKey :=
  (pow_dvd_pow 2 h).trans (by unfold infKey; decide)

/-- Setting a bit below which, and at which, the word has none adds it. -/
theorem toNat_or (p : BitVec 32) (j : ℕ) (hj : j < 32) (hd : 2 ^ (j + 1) ∣ p.toNat) :
    (p ||| BitVec.ofNat 32 (2 ^ j)).toNat = p.toNat + 2 ^ j := by
  obtain ⟨a, ha⟩ := hd
  have hlt : 2 ^ j < 2 ^ 32 := Nat.pow_lt_pow_right (by norm_num) hj
  rw [BitVec.toNat_or, BitVec.toNat_ofNat, Nat.mod_eq_of_lt hlt, ha,
    ← Nat.two_pow_add_eq_or_of_lt (Nat.pow_lt_pow_right (by norm_num) (Nat.lt_succ_self j))]

/-- A word below plus infinity that is a multiple of `2^(j+1)` stays at or below it with bit `j` set. -/
theorem add_le_infKey (p j : ℕ) (hj : j < 32) (hd : 2 ^ (j + 1) ∣ p) (hp : p < infKey) : p + 2 ^ j ≤ infKey := by
  by_cases h : j ≤ 22
  · have h1 : 2 ^ (j + 1) ∣ infKey - p := Nat.dvd_sub (infKey_dvd (j + 1) (by omega)) hd
    have h2 := Nat.le_of_dvd (by omega) h1
    have h3 : 2 ^ (j + 1) = 2 * 2 ^ j := by ring
    have h4 : 0 < 2 ^ j := by positivity
    omega
  · have h5 : p + 2 ^ (j + 1) ≤ 2 ^ 32 := by
      have h1 : 2 ^ (j + 1) ∣ 2 ^ 32 - p := Nat.dvd_sub (pow_dvd_pow 2 (by omega)) hd
      unfold infKey at hp
      have h2 := Nat.le_of_dvd (by norm_num; omega) h1
      norm_num at h2 ⊢
      omega
    have h6 : 2 ^ 23 ≤ 2 ^ j := Nat.pow_le_pow_right (by norm_num) (by omega)
    have h3 : 2 ^ (j + 1) = 2 * 2 ^ j := by ring
    unfold infKey
    norm_num at h5 h6
    omega

/-- The search ends at the greatest word with the property. -/
theorem search (ok : ℕ → Prop) (hanti : ∀ p q, p ≤ q → q ≤ infKey → ok q → ok p) (h0 : ok 0) (hA : ¬ ok infKey)
    (g : Fin 32 → BitVec 32 → BitVec 32)
    (hyes : ∀ (t : Fin 32) p, ok (p ||| BitVec.ofNat 32 (2 ^ (31 - t.val))).toNat → g t p = p ||| BitVec.ofNat 32 (2 ^ (31 - t.val)))
    (hno : ∀ (t : Fin 32) p, ¬ ok (p ||| BitVec.ofNat 32 (2 ^ (31 - t.val))).toNat → g t p = p) :
    ok ((List.finRange 32).foldl (fun p t => g t p) 0#32).toNat ∧
      ((List.finRange 32).foldl (fun p t => g t p) 0#32).toNat < infKey ∧
      ∀ q, ((List.finRange 32).foldl (fun p t => g t p) 0#32).toNat < q → q ≤ infKey → ¬ ok q := by
  have H := foldl_finRange 32 g (fun t p => 2 ^ (32 - t) ∣ p.toNat ∧ p.toNat < infKey ∧ ok p.toNat ∧
      ∀ q, p.toNat + 2 ^ (32 - t) ≤ q → q ≤ infKey → ¬ ok q) 0#32 ?_ ?_
  · obtain ⟨_, h2, h3, h4⟩ := H
    exact ⟨h3, h2, fun q hq hq' => h4 q (by simpa using hq) hq'⟩
  · refine ⟨by simp, by unfold infKey; simp, by simpa using h0, fun q hq hq' => ?_⟩
    unfold infKey at hq'
    norm_num at hq
    omega
  · rintro t p ⟨hd, hp, hok, hup⟩
    have ht := t.isLt
    rw [show 32 - t.val = (31 - t.val) + 1 by omega] at hd hup
    have hor := toNat_or p (31 - t.val) (by omega) hd
    have hle := add_le_infKey p.toNat (31 - t.val) (by omega) hd hp
    have h2 : 2 ^ (31 - t.val + 1) = 2 ^ (31 - t.val) + 2 ^ (31 - t.val) := by ring
    rw [show 32 - (t.val + 1) = 31 - t.val by omega]
    by_cases h : ok (p ||| BitVec.ofNat 32 (2 ^ (31 - t.val))).toNat
    · rw [hyes t p h, hor]
      rw [hor] at h
      refine ⟨Nat.dvd_add ((pow_dvd_pow 2 (Nat.le_succ _)).trans hd) (dvd_refl _), ?_, h, fun q hq hq' => hup q (by omega) hq'⟩
      rcases eq_or_lt_of_le hle with e | e
      · exact absurd (e ▸ h) hA
      · exact e
    · rw [hno t p h]
      rw [hor] at h
      exact ⟨(pow_dvd_pow 2 (Nat.le_succ _)).trans hd, hp, hok, fun q hq hq' hc => h (hanti _ q hq hq' hc)⟩

end Cert.Search

end
-- ==== Proof.Column.lean ====
/-
  One row of scores: the 128 greatest, and the threshold that separates them.

  `order s` is the stable order of the scores, greatest first; the scores in its first 128 places are the chosen ones.
  When the 128th score is finite and the 129th lies below it by the binary32 spacing there (`Separated`), some
  threshold falls between the two, so the greatest threshold that 128 scores reach chooses the same scores.
-/
module

public import Idealize.ShloMosaic.Lib.SortFacts
public import proofs.«01_k».proof.Proof.Search

@[expose] public section

noncomputable section

namespace Cert.Column

open Idealize.ShloMosaic Cert.Grid Cert.Threshold

/-- The scores' stable order, greatest first: the place that comes at position `i`. -/
def order (s : Fin 2048 → EReal) : Fin 2048 → Fin 2048 :=
  sortedFrom fun k k' => FloatOps.cmpfTotal (F := Ideal) (φ := .f32) .gt (s k) (s k') == 1#1

/-- Place `m` is among the first 128. -/
def Chosen (s : Fin 2048 → EReal) (m : Fin 2048) : Prop := ∃ i : Fin 2048, i.val < 128 ∧ order s i = m

/-- The 128th score is finite and exceeds the 129th by the spacing. -/
def Separated (s : Fin 2048 → EReal) : Prop :=
  max (s (order s 127)) (-(s (order s 127))) ≤ Ideal.ofBits .f32 2139095039#32 ∧
    Ideal.ofBits .f32 872415232#32 * max (max (s (order s 127)) (-(s (order s 127)))) (Ideal.ofBits .f32 8388608#32)
      ≤ s (order s 127) - s (order s 128)

theorem gt_eq (a b : EReal) : (FloatOps.cmpfTotal (F := Ideal) (φ := .f32) .gt a b == 1#1) = decide (b < a) := by
  show (BitVec.ofBool (decide (b < a)) == 1#1) = _
  cases decide (b < a) <;> rfl

theorem order_antitone (s : Fin 2048 → EReal) (i j : Fin 2048) (h : i ≤ j) : s (order s j) ≤ s (order s i) := by
  rcases eq_or_lt_of_le h with rfl | h
  · exact le_rfl
  · have := sortedFrom_noInversion (fun k k' => FloatOps.cmpfTotal (F := Ideal) (φ := .f32) .gt (s k) (s k') == 1#1)
      (fun k k' => FloatOps.cmpfTotal (F := Ideal) (φ := .f32) .gt (s k) (s k') == 1#1)
      (fun a b h => by
        rw [gt_eq, decide_eq_true_iff] at h
        rw [gt_eq, decide_eq_false_iff_not]; exact not_lt.2 h.le)
      (fun a b h => h)
      (fun a b c h1 h2 => by
        rw [gt_eq, decide_eq_false_iff_not, not_lt] at *
        exact h1.trans h2) i j h
    rw [gt_eq, decide_eq_false_iff_not, not_lt] at this
    exact this

theorem order_injective (s : Fin 2048 → EReal) : Function.Injective (order s) := sortedFrom_injective _

theorem order_surjective (s : Fin 2048 → EReal) : Function.Surjective (order s) := sortedFrom_surjective _

/-- How many scores reach the threshold of `p`. -/
def count (s : Fin 2048 → EReal) (p : ℕ) : ℕ := (Finset.univ.filter fun m => level p ≤ s m).card

/-- At least 128 scores reach the threshold of `p`. -/
def Ok (s : Fin 2048 → EReal) (p : ℕ) : Prop := 128 ≤ count s p

theorem ok_anti (s : Fin 2048 → EReal) (p q : ℕ) (h : p ≤ q) (hq : q ≤ infKey) (ho : Ok s q) : Ok s p :=
  le_trans ho (Finset.card_le_card fun m hm => by
    rw [Finset.mem_filter] at hm ⊢
    exact ⟨hm.1, (level_mono p q h hq).trans hm.2⟩)

theorem ok_zero (s : Fin 2048 → EReal) : Ok s 0 := by
  unfold Ok count
  rw [level_bottom 0 (by norm_num)]
  simp

/-- The chosen places, in number 128. -/
def chosenSet (s : Fin 2048 → EReal) : Finset (Fin 2048) := (Finset.univ.filter fun i : Fin 2048 => i.val < 128).image (order s)

theorem mem_chosenSet (s : Fin 2048 → EReal) (m : Fin 2048) : m ∈ chosenSet s ↔ Chosen s m := by
  unfold chosenSet Chosen
  simp

theorem card_below (n : ℕ) (h : n ≤ 2048) : (Finset.univ.filter fun i : Fin 2048 => i.val < n).card = n := by
  rw [Fin.card_filter_val_lt]; omega

theorem card_chosenSet (s : Fin 2048 → EReal) : (chosenSet s).card = 128 := by
  unfold chosenSet
  rw [Finset.card_image_of_injective _ (order_injective s), card_below 128 (by norm_num)]

theorem huge_eq : Ideal.ofBits .f32 2139095039#32 = ((mag 2139095039 : ℝ) : EReal) := by
  rw [ofBits_eq_dec, show (2139095039#32 : BitVec 32).msb = false from by decide]
  simp [dec]

theorem eps_eq : Ideal.ofBits .f32 872415232#32 = (((2 : ℝ) ^ (-23 : ℤ) : ℝ) : EReal) := by
  rw [ofBits_eq_dec, show (872415232#32 : BitVec 32).msb = false from by decide]
  have : mag 872415232 = (2 : ℝ) ^ (-23 : ℤ) := by unfold mag; norm_num
  simp only [dec, BitVec.toNat_ofNat]
  norm_num
  rw [this]; norm_num

theorem tiny_eq : Ideal.ofBits .f32 8388608#32 = (((2 : ℝ) ^ (-126 : ℤ) : ℝ) : EReal) := by
  rw [ofBits_eq_dec, show (8388608#32 : BitVec 32).msb = false from by decide]
  have : mag 8388608 = (2 : ℝ) ^ (-126 : ℤ) := by unfold mag; norm_num
  simp only [dec, BitVec.toNat_ofNat]
  norm_num
  rw [this]; norm_num

theorem coe_max (a b : ℝ) : ((max a b : ℝ) : EReal) = max (a : EReal) (b : EReal) := EReal.coe_strictMono.monotone.map_max

/-- A finite 128th score, and a threshold between it and the next. -/
theorem exists_between (s : Fin 2048 → EReal) (h : Separated s) :
    s (order s 127) < ⊤ ∧ ∃ q, q < infKey ∧ level q ≤ s (order s 127) ∧ s (order s 128) < level q := by
  obtain ⟨h1, h2⟩ := h
  have hn : s (order s 128) ≤ s (order s 127) := order_antitone s 127 128 (by decide)
  generalize s (order s 127) = k at *
  generalize s (order s 128) = n at *
  rw [huge_eq] at h1
  rw [eps_eq, tiny_eq] at h2
  induction k with
  | bot => simp at h1
  | top => simp at h1
  | coe k =>
    refine ⟨EReal.coe_lt_top k, ?_⟩
    have e : max (k : EReal) (-(k : EReal)) = ((|k| : ℝ) : EReal) := by
      rw [← EReal.coe_neg, ← coe_max]; rfl
    rw [e] at h1 h2
    rw [EReal.coe_le_coe_iff] at h1
    rw [← coe_max, ← EReal.coe_mul] at h2
    obtain ⟨q, hq, y, hy, hyk, hky⟩ := exists_near k h1
    refine ⟨q, hq, ?_, ?_⟩
    · rw [hy]; exact EReal.coe_le_coe_iff.2 hyk
    · rw [hy]
      induction n with
      | bot => exact EReal.bot_lt_coe y
      | top => simp at hn
      | coe n =>
        rw [← EReal.coe_sub, EReal.coe_le_coe_iff] at h2
        rw [EReal.coe_lt_coe_iff]
        linarith

/-- The threshold between the two is reached by exactly the chosen scores. -/
theorem level_between (s : Fin 2048 → EReal) (q : ℕ) (h1 : level q ≤ s (order s 127)) (h2 : s (order s 128) < level q) (m : Fin 2048) :
    level q ≤ s m ↔ m ∈ chosenSet s := by
  rw [mem_chosenSet]
  constructor
  · intro h
    obtain ⟨i, rfl⟩ := order_surjective s m
    refine ⟨i, ?_, rfl⟩
    by_contra hi
    have := order_antitone s 128 i (Fin.le_def.2 (not_lt.1 hi))
    exact absurd (h2.trans_le h) (not_lt.2 this)
  · rintro ⟨i, hi, rfl⟩
    exact h1.trans (order_antitone s i 127 (Fin.le_def.2 (Nat.le_of_lt_succ hi)))

theorem not_ok_inf (s : Fin 2048 → EReal) (h : s (order s 127) < ⊤) : ¬ Ok s infKey := by
  have hs : (Finset.univ.filter fun m => level infKey ≤ s m)
      ⊆ (Finset.univ.filter fun i : Fin 2048 => i.val < 127).image (order s) := by
    intro m hm
    rw [Finset.mem_filter, level_inf] at hm
    obtain ⟨i, rfl⟩ := order_surjective s m
    refine Finset.mem_image.2 ⟨i, ?_, rfl⟩
    rw [Finset.mem_filter]
    refine ⟨Finset.mem_univ _, ?_⟩
    by_contra hi
    have := order_antitone s 127 i (Fin.le_def.2 (not_lt.1 hi))
    exact absurd (hm.2.trans this) (not_le.2 h)
  have := Finset.card_le_card hs
  rw [Finset.card_image_of_injective _ (order_injective s), card_below 127 (by norm_num)] at this
  unfold Ok count
  omega

/-- Of a separated row, the greatest threshold that 128 scores reach is reached by exactly the chosen scores. -/
theorem greatest_chooses (s : Fin 2048 → EReal) (h : Separated s) (p : ℕ) (hok : Ok s p) (hp : p < infKey)
    (hup : ∀ q, p < q → q ≤ infKey → ¬ Ok s q) (m : Fin 2048) : level p ≤ s m ↔ Chosen s m := by
  obtain ⟨_, q, hq, h1, h2⟩ := exists_between s h
  have hset : (Finset.univ.filter fun m => level q ≤ s m) = chosenSet s := by
    ext m; rw [Finset.mem_filter, level_between s q h1 h2]; simp
  have hqok : Ok s q := by unfold Ok count; rw [hset, card_chosenSet]
  have hqp : q ≤ p := by
    by_contra hc
    exact hup q (not_le.1 hc) hq.le hqok
  have hsub : (Finset.univ.filter fun m => level p ≤ s m) ⊆ chosenSet s := by
    rw [← hset]
    intro m hm
    rw [Finset.mem_filter] at hm ⊢
    exact ⟨hm.1, (level_mono q p hqp hp.le).trans hm.2⟩
  have heq := Finset.eq_of_subset_of_card_le hsub (by rw [card_chosenSet]; exact hok)
  rw [← mem_chosenSet, ← heq]
  simp

/-- One trip of the search in the row `s`. -/
def Trip (s : Fin 2048 → EReal) (g : Fin 32 → BitVec 32 → BitVec 32) : Prop :=
  ∀ (t : Fin 32) (p : BitVec 32), g t p =
    if 128 ≤ (Finset.univ.filter fun m => thr (p ||| BitVec.ofNat 32 (2 ^ (31 - t.val))) ≤ s m).card
    then p ||| BitVec.ofNat 32 (2 ^ (31 - t.val)) else p

/-- The thirty-two trips end at a word whose threshold exactly the chosen scores reach. -/
theorem search_chooses (s : Fin 2048 → EReal) (h : Separated s) (g : Fin 32 → BitVec 32 → BitVec 32) (hg : Trip s g) (m : Fin 2048) :
    thr ((List.finRange 32).foldl (fun p t => g t p) 0#32) ≤ s m ↔ Chosen s m := by
  have hlev : ∀ p : BitVec 32, level p.toNat = thr p := fun p => by unfold level; rw [BitVec.ofNat_toNat, BitVec.setWidth_eq]
  have hokw : ∀ p : BitVec 32, Ok s p.toNat ↔ 128 ≤ (Finset.univ.filter fun m => thr p ≤ s m).card := fun p => by
    unfold Ok count; rw [hlev]
  obtain ⟨h1, h2, h3⟩ := Search.search (Ok s) (ok_anti s) (ok_zero s) (not_ok_inf s (exists_between s h).1) g
    (fun t p ho => by rw [hg t p, if_pos ((hokw _).1 ho)])
    (fun t p ho => by rw [hg t p, if_neg (fun hc => ho ((hokw _).2 hc))])
  rw [← hlev]
  exact greatest_chooses s h _ h1 h2 h3 m

end Cert.Column

end
-- ==== Proof.TopK.lean ====
/-
  The scores, and the host's top-k of them at an index.

  `score x b n m` is the inner product of the rows `n` and `m` of batch `b`. A top-k along the last axis of an array of
  rows holds at place `i` of row `(b, n)` the row's value at the place that comes `i`-th in the row's stable order, and,
  beside it, that place as a word.
-/
module

public import Idealize.ShloMosaic.PureOps
public import Idealize.ShloMosaic.Lib.ValueIdx
public import proofs.«01_k».proof.Proof.Column

@[expose] public section

noncomputable section

namespace Cert.TopK

open Idealize.ShloMosaic Idealize.ShloMosaic.ValueIdx Cert.Column

/-- The shapes of the scores and of their `k` greatest. -/
abbrev Rows (k : ℕ) : Shape := ⟨3, ![4, 2048, k]⟩

/-- The inner product of two rows of a batch. -/
def score (x : (Rows 2048).Idx → EReal) (b : Fin 4) (n m : Fin 2048) : EReal :=
  ∑ d : Fin 2048, x (ix3 b n d) * x (ix3 b m d)

theorem score_comm (x : (Rows 2048).Idx → EReal) (b : Fin 4) (n m : Fin 2048) : score x b n m = score x b m n :=
  Finset.sum_congr rfl fun _ _ => mul_comm _ _

theorem along_ix3 (b : Fin 4) (n m k : Fin 2048) (h : 2 < (Rows 2048).rank) :
    (ix3 b n m : (Rows 2048).Idx).along ⟨2, h⟩ k = ix3 b n k := by
  funext a
  unfold Shape.Idx.along
  match a with
  | ⟨0, _⟩ => exact Function.update_of_ne (fun hc => absurd (congrArg Fin.val hc) (show ¬ (0 : ℕ) = 2 by decide)) _ _
  | ⟨1, _⟩ => exact Function.update_of_ne (fun hc => absurd (congrArg Fin.val hc) (show ¬ (1 : ℕ) = 2 by decide)) _ _
  | ⟨2, _⟩ => exact Function.update_self _ _ _

/-- The first `k` places of the rows. -/
theorem cut_apply {α : Type} (k : ℕ) (hk : k ≤ 2048) (y : (Rows 2048).Idx → α) (h : (Rows 2048).Slices (fun _ => 0) (Rows k))
    (b : Fin 4) (n : Fin 2048) (i : Fin k) :
    extractStridedSlice (Rows k) (fun _ => 0) y h (ix3 b n i) = y (ix3 b n (i.castLE hk)) := by
  unfold extractStridedSlice
  refine congrArg y (funext fun a => Fin.ext ?_)
  match a with
  | ⟨0, _⟩ => exact Nat.zero_add _
  | ⟨1, _⟩ => exact Nat.zero_add _
  | ⟨2, _⟩ => exact Nat.zero_add _

/-- The rows in their stable orders, and what is carried along. -/
theorem sorted_apply {β : Type} (x : (Rows 2048).Idx → EReal) (y : (Rows 2048).Idx → β) (b : Fin 4) (n i : Fin 2048) :
    (Host.sort2 (Rows 2048) 2 (fun l r => FloatOps.cmpfTotal (F := Ideal) (φ := .f32) .gt l.1 r.1) x y).1 (ix3 b n i)
        = x (ix3 b n (order (fun m => x (ix3 b n m)) i)) ∧
      (Host.sort2 (Rows 2048) 2 (fun l r => FloatOps.cmpfTotal (F := Ideal) (φ := .f32) .gt l.1 r.1) x y).2 (ix3 b n i)
        = y (ix3 b n (order (fun m => x (ix3 b n m)) i)) := by
  have h : 2 < (Rows 2048).rank := by decide
  have ho : sortedFrom (n := 2048) (fun k k' => FloatOps.cmpfTotal (F := Ideal) (φ := .f32) .gt
      (x ((ix3 b n i : (Rows 2048).Idx).along ⟨2, h⟩ k)) (x ((ix3 b n i : (Rows 2048).Idx).along ⟨2, h⟩ k')) == 1#1) i
      = order (fun m => x (ix3 b n m)) i :=
    congrArg (fun f : Fin 2048 → Fin 2048 → Bool => sortedFrom (n := 2048) f i) (funext fun k => funext fun k' =>
      congrArg₂ (fun p q : (Rows 2048).Idx => FloatOps.cmpfTotal (F := Ideal) (φ := .f32) .gt (x p) (x q) == 1#1)
        (along_ix3 b n i k h) (along_ix3 b n i k' h))
  have hp : (ix3 b n i : (Rows 2048).Idx).along ⟨2, h⟩ (sortedFrom (n := 2048) (fun k k' => FloatOps.cmpfTotal (F := Ideal) (φ := .f32) .gt
      (x ((ix3 b n i : (Rows 2048).Idx).along ⟨2, h⟩ k)) (x ((ix3 b n i : (Rows 2048).Idx).along ⟨2, h⟩ k')) == 1#1) i)
      = ix3 b n (order (fun m => x (ix3 b n m)) i) := by
    rw [ho]; exact along_ix3 b n i _ h
  unfold Host.sort2
  rw [dif_pos h]
  exact ⟨congrArg x hp, congrArg y hp⟩

/-- The iota a top-k carries along. -/
def iota (i : (Rows 2048).Idx) : BitVec 32 :=
  if hd : 2 < (Rows 2048).rank then iotaInDim (Rows 2048) 32 ⟨2, hd⟩ i else 0#32

theorem iota_apply (b : Fin 4) (n m : Fin 2048) : iota (ix3 b n m) = BitVec.ofNat 32 m.val := by
  unfold iota
  rw [dif_pos (show 2 < (Rows 2048).rank by decide)]
  rfl

/-- The greatest values. -/
theorem values_apply (k : ℕ) (hk : k ≤ 2048) (x : (Rows 2048).Idx → EReal) (h : (Rows 2048).Slices (fun _ => 0) (Rows k))
    (b : Fin 4) (n : Fin 2048) (i : Fin k) :
    (Host.topK (Rows k) 2 (FloatOps.cmpfTotal (F := Ideal) (φ := .f32) .gt) x h).1 (ix3 b n i)
      = x (ix3 b n (order (fun m => x (ix3 b n m)) (i.castLE hk))) := by
  show extractStridedSlice (Rows k) (fun _ => 0)
    (Host.sort2 (Rows 2048) 2 (fun l r => FloatOps.cmpfTotal (F := Ideal) (φ := .f32) .gt l.1 r.1) x iota).1 h (ix3 b n i) = _
  rw [cut_apply k hk, (sorted_apply x iota b n _).1]

/-- Their places. -/
theorem places_apply (k : ℕ) (hk : k ≤ 2048) (x : (Rows 2048).Idx → EReal) (h : (Rows 2048).Slices (fun _ => 0) (Rows k))
    (b : Fin 4) (n : Fin 2048) (i : Fin k) :
    (Host.topK (Rows k) 2 (FloatOps.cmpfTotal (F := Ideal) (φ := .f32) .gt) x h).2 (ix3 b n i)
      = BitVec.ofNat 32 (order (fun m => x (ix3 b n m)) (i.castLE hk)).val := by
  show extractStridedSlice (Rows k) (fun _ => 0)
    (Host.sort2 (Rows 2048) 2 (fun l r => FloatOps.cmpfTotal (F := Ideal) (φ := .f32) .gt l.1 r.1) x iota).2 h (ix3 b n i) = _
  rw [cut_apply k hk, (sorted_apply x iota b n _).2, iota_apply]

end Cert.TopK

end
-- ==== Proof.Reference.lean ====
/-
  What the reference computes.

  Its mask is one exactly at the chosen places of each row of scores (a scatter of the top-k places), so its edge between
  `n` and `m` is the softened score where `m` is chosen by `n` and zero elsewhere, and its two results are the sums of
  the edges times the states and times the rows.
-/
module

public import proofs.«01_k».proof.Proof.Gen.ReferenceIdeal.Read
public import Idealize.ShloMosaic.Lib.Routing.OpsSet
public import Idealize.ShloMosaic.Lib.Routing.OpsPair
public import proofs.«01_k».proof.Proof.TopK

@[expose] public section

noncomputable section

namespace Cert.Reference

open Idealize.ShloMosaic Idealize.ShloMosaic.ValueIdx Cert.Column Cert.TopK Cert.ReferenceIdeal Cert.ReferenceIdeal.Gen Cert.ReferenceIdeal.Read

/-- A row of scores. -/
def row (x : (Rows 2048).Idx → EReal) (b : Fin 4) (n : Fin 2048) : Fin 2048 → EReal := fun m => score x b n m

/-- The softened score. -/
def soft (s : EReal) : EReal := Ideal.div s (Ideal.ofBits .f32 1065353216#32 + max s (-s))

open Classical in
/-- The edge from `n` to `m`. -/
def edge (x : (Rows 2048).Idx → EReal) (b : Fin 4) (n m : Fin 2048) : EReal :=
  if Chosen (row x b n) m then soft (score x b n m) else Ideal.ofBits .f32 0#32

theorem scores_apply (x : (Rows 2048).Idx → EReal) (b : Fin 4) (n m : Fin 2048) :
    val_main_v0 (F := Ideal) x (ix3 b n m) = score x b n m := by
  rw [val_main_v0_apply]
  refine Finset.sum_congr rfl fun d _ => congrArg₂ (· * ·) (congrArg x ?_) (congrArg x ?_)
  · funext a; match a with | ⟨0, _⟩ => rfl | ⟨1, _⟩ => rfl | ⟨2, _⟩ => rfl
  · funext a; match a with | ⟨0, _⟩ => rfl | ⟨1, _⟩ => rfl | ⟨2, _⟩ => rfl

theorem places (x : (Rows 2048).Idx → EReal) (b : Fin 4) (n : Fin 2048) (i : Fin 128) :
    val_main_indices (F := Ideal) x (ix3 b n i) = BitVec.ofNat 32 (order (row x b n) (i.castLE (by norm_num))).val := by
  unfold val_main_indices
  refine (places_apply 128 (by norm_num) _ _ b n i).trans ?_
  rw [show (fun m => val_main_v0 (F := Ideal) x (ix3 b n m)) = row x b n from funext fun m => scores_apply x b n m]

theorem wrap (v : ℕ) (hv : v < 2048) (a : BitVec 32) :
    Scalar.select (IntOp.cmpi .slt (BitVec.ofNat 32 v) 0#32) a (BitVec.ofNat 32 v) = BitVec.ofNat 32 v :=
  Routing.wrap_of_lt _ _ (by rw [BitVec.toNat_ofNat]; omega)

/-- The three words of an update. -/
theorem word0 (x : (Rows 2048).Idx → EReal) (b : Fin 4) (n : Fin 2048) (i : Fin 128) :
    val_main_v26 (F := Ideal) x (ix4 b n i 0) = BitVec.ofNat 32 b.val := by
  unfold val_main_v26
  refine (concatenate_apply_piece (t := S4x2048x128x3) 3 _ _ _ 0 (by show 0 < 3; decide) S4x2048x128x1 (val_main_v23 (F := Ideal)) rfl rfl 0 rfl (ix4 b n i 0)
    (fun a => by match a with | ⟨0, _⟩ => exact fun _ => rfl | ⟨1, _⟩ => exact fun _ => rfl | ⟨2, _⟩ => exact fun _ => rfl | ⟨3, _⟩ => exact fun h => absurd rfl h) rfl).trans ?_
  rw [val_main_v23_apply, val_main_v21_apply, val_main_v10_apply, val_main_v7_apply, val_main_v2_apply, val_main_v6_apply, val_main_v1_apply, val_main_c_0_apply]
  exact wrap b.val (by omega) _

theorem word1 (x : (Rows 2048).Idx → EReal) (b : Fin 4) (n : Fin 2048) (i : Fin 128) :
    val_main_v26 (F := Ideal) x (ix4 b n i 1) = BitVec.ofNat 32 n.val := by
  unfold val_main_v26
  refine (concatenate_apply_piece (t := S4x2048x128x3) 3 _ _ _ 1 (by show 1 < 3; decide) S4x2048x128x1 (val_main_v24 (F := Ideal)) rfl rfl 1 rfl (ix4 b n i 0)
    (fun a => by match a with | ⟨0, _⟩ => exact fun _ => rfl | ⟨1, _⟩ => exact fun _ => rfl | ⟨2, _⟩ => exact fun _ => rfl | ⟨3, _⟩ => exact fun h => absurd rfl h) rfl).trans ?_
  rw [val_main_v24_apply, val_main_v22_apply, val_main_v15_apply, val_main_v12_apply, val_main_v4_apply, val_main_v11_apply, val_main_v3_apply, val_main_c_2_apply]
  exact wrap n.val (by omega) _

theorem word2 (x : (Rows 2048).Idx → EReal) (b : Fin 4) (n : Fin 2048) (i : Fin 128) :
    val_main_v26 (F := Ideal) x (ix4 b n i 2) = BitVec.ofNat 32 (order (row x b n) (i.castLE (by norm_num))).val := by
  unfold val_main_v26
  refine (concatenate_apply_piece (t := S4x2048x128x3) 3 _ _ _ 2 (by show 2 < 3; decide) S4x2048x128x1 (val_main_v25 (F := Ideal) x) rfl rfl 2 rfl (ix4 b n i 0)
    (fun a => by match a with | ⟨0, _⟩ => exact fun _ => rfl | ⟨1, _⟩ => exact fun _ => rfl | ⟨2, _⟩ => exact fun _ => rfl | ⟨3, _⟩ => exact fun h => absurd rfl h) rfl).trans ?_
  rw [val_main_v25_apply, val_main_v20_apply, val_main_v17_apply, val_main_v16_apply, val_main_c_4_apply]
  rw [show idx_main_v25 (ix4 b n i 0) = ix3 b n i from funext fun a => by match a with | ⟨0, _⟩ => rfl | ⟨1, _⟩ => rfl | ⟨2, _⟩ => rfl, places]
  exact wrap _ (order _ _).isLt _

/-- Where an update lands. -/
theorem lands (idx : IVec S4x2048x128x3 32) (b b' : Fin 4) (n n' m : Fin 2048) (i : Fin 128) :
    scatter_S4x2048x2048_S4x2048x128x3_S4x2048x128_n_012_012_3.resultIdx? (ix3 b' n' i) idx = some (ix3 b n m) ↔
      (idx (ix4 b' n' i 0)).toInt = b.val ∧ (idx (ix4 b' n' i 1)).toInt = n.val ∧ (idx (ix4 b' n' i 2)).toInt = m.val := by
  have hwin : ∀ q : Fin 3, scatter_S4x2048x2048_S4x2048x128x3_S4x2048x128_n_012_012_3.window (ix3 b' n' i) q = 0 := fun q => by
    unfold ScatterDims.window
    rw [dif_neg fun h => (of_decide_eq_true (List.mem_filter.1 h).2) (by
      show q ∈ ([0, 1, 2] : List (Fin 3)); fin_cases q <;> simp)]
  have hm : ∀ q : Fin 3, q ∈ scatter_S4x2048x2048_S4x2048x128x3_S4x2048x128_n_012_012_3.scatterDimsToOperandDims := fun q => by
    show q ∈ ([0, 1, 2] : List (Fin 3)); fin_cases q <;> simp
  have hstart : ∀ q : Fin 3, scatter_S4x2048x2048_S4x2048x128x3_S4x2048x128_n_012_012_3.start (ix3 b' n' i) idx q = (idx (ix4 b' n' i q)).toInt := fun q => by
    unfold ScatterDims.start
    rw [dif_pos (hm q)]
    refine congrArg (fun j => (idx j).toInt) (funext fun a => Fin.ext ?_)
    match a with
    | ⟨0, _⟩ => rfl
    | ⟨1, _⟩ => rfl
    | ⟨2, _⟩ => rfl
    | ⟨3, _⟩ => fin_cases q <;> rfl
  rw [Routing.resultIdx?_eq_some]
  constructor
  · intro h
    have h0 := h 0; have h1 := h 1; have h2 := h 2
    rw [hstart, hwin] at h0 h1 h2
    exact ⟨by simpa using h0, by simpa using h1, by simpa using h2⟩
  · rintro ⟨h0, h1, h2⟩ a
    rw [hstart, hwin]
    match a with
    | ⟨0, _⟩ => simpa using h0
    | ⟨1, _⟩ => simpa using h1
    | ⟨2, _⟩ => simpa using h2

/-- The mask is one at the chosen places, -/
theorem mask_chosen (x : (Rows 2048).Idx → EReal) (b : Fin 4) (n m : Fin 2048) (h : Chosen (row x b n) m) :
    val_main_v28 (F := Ideal) x (ix3 b n m) = 1#1 := by
  obtain ⟨i, hi, rfl⟩ := h
  unfold val_main_v28
  refine Routing.scatter_set_hit _ _ _ _ _ 1#1 (fun k _ => by rw [val_main_v27_apply]; rfl) (ix3 b n ⟨i.val, hi⟩) ?_
  rw [lands, word0, word1, word2]
  have hw : ∀ v : ℕ, v < 2048 → (BitVec.ofNat 32 v).toInt = v := fun v hv =>
    WordCmp.toInt_ofNat_of_lt (by omega)
  exact ⟨hw _ (by omega), hw _ n.isLt, hw _ (order _ _).isLt⟩

/-- and zero elsewhere. -/
theorem mask_other (x : (Rows 2048).Idx → EReal) (b : Fin 4) (n m : Fin 2048) (h : ¬ Chosen (row x b n) m) :
    val_main_v28 (F := Ideal) x (ix3 b n m) = 0#1 := by
  unfold val_main_v28
  rw [Routing.scatter_set_miss]
  · rw [val_main_v5_apply]; rfl
  · intro k hk
    obtain ⟨b', n', i, rfl⟩ : ∃ (b' : Fin 4) (n' : Fin 2048) (i : Fin 128), k = ix3 b' n' i := ⟨k 0, k 1, k 2, eq_ix3 k⟩
    have hw : ∀ v : ℕ, v < 2048 → (BitVec.ofNat 32 v).toInt = v := fun v hv => WordCmp.toInt_ofNat_of_lt (by omega)
    obtain ⟨h0, h1, h2⟩ := (lands _ b b' n n' m i).1 hk
    rw [word0, hw _ (by omega)] at h0
    rw [word1, hw _ n'.isLt] at h1
    rw [word2, hw _ (order _ _).isLt] at h2
    have e0 : b' = b := Fin.ext (by exact_mod_cast h0)
    have e1 : n' = n := Fin.ext (by exact_mod_cast h1)
    exact h ⟨_, i.isLt, Fin.ext (by rw [← e0, ← e1]; exact_mod_cast h2)⟩

/-- The reference's edge. -/
theorem edge_apply (x : (Rows 2048).Idx → EReal) (b : Fin 4) (n m : Fin 2048) :
    val_main_v33 (F := Ideal) x (ix3 b n m) = edge x b n m := by
  rw [val_main_v33_apply]
  unfold edge
  by_cases h : Chosen (row x b n) m
  · rw [if_pos h, mask_chosen x b n m h, val_main_v32_apply, val_main_v31_apply, val_main_v30_apply, val_main_v29_apply, scores_apply, val_main_cst_apply]
    rfl
  · rw [if_neg h, mask_other x b n m h, val_main_call0_v1_apply, val_main_call0_v0_apply, val_main_cst_7_apply]
    rfl

/-- The change of the states. -/
theorem states_apply (x : (Rows 2048).Idx → EReal) (y : S4x2048.Idx → EReal) (b : Fin 4) (n : Fin 2048) :
    val_main_v34 (F := Ideal) x y (ix2 b n) = ∑ m : Fin 2048, edge x b n m * y (ix2 b m) := by
  rw [val_main_v34_apply]
  refine Finset.sum_congr rfl fun m _ => congrArg₂ (· * ·) ?_ (congrArg y ?_)
  · rw [← edge_apply]
    refine congrArg _ (funext fun a => ?_)
    match a with | ⟨0, _⟩ => rfl | ⟨1, _⟩ => rfl | ⟨2, _⟩ => rfl
  · funext a; match a with | ⟨0, _⟩ => rfl | ⟨1, _⟩ => rfl

/-- The change of the rows. -/
theorem rows_apply (x : (Rows 2048).Idx → EReal) (b : Fin 4) (n d : Fin 2048) :
    val_main_v35 (F := Ideal) x (ix3 b n d) = ∑ m : Fin 2048, edge x b n m * x (ix3 b m d) := by
  rw [val_main_v35_apply]
  refine Finset.sum_congr rfl fun m _ => congrArg₂ (· * ·) ?_ (congrArg x ?_)
  · rw [← edge_apply]
    refine congrArg _ (funext fun a => ?_)
    match a with | ⟨0, _⟩ => rfl | ⟨1, _⟩ => rfl | ⟨2, _⟩ => rfl
  · funext a; match a with | ⟨0, _⟩ => rfl | ⟨1, _⟩ => rfl | ⟨2, _⟩ => rfl

end Cert.Reference

end
-- ==== Proof.Precondition.lean ====
/-
  What the precondition says of a row of scores.

  `separated` takes the 129 greatest scores of each row and asks that the 128th be finite and lie above the 129th by more
  than a 2^-23 of itself. Read at one row, that is `Separated` of the row.
-/
module

public import proofs.«01_k».proof.Pre_separated
public import proofs.«01_k».proof.Proof.Reference

@[expose] public section

noncomputable section

namespace Cert.Precondition

open Idealize.ShloMosaic Idealize.ShloMosaic.ValueIdx Cert.Column Cert.TopK Cert.Reference

theorem facts : Cert.Pre_separated.Facts where
  sliceFits_S4x2048x2048_S4x2048x129 := by decide
  slices_S4x2048x129_S4x2048x1_0_0_127 := by decide
  shapeCasts_S4x2048x1_S4x2048 := by decide
  slices_S4x2048x129_S4x2048x1_0_0_128 := by decide
  bcast_S_S4x2048 := by decide
  dot_S4x2048x2048_S4x2048x2048_S4x2048x2048_2_2_1_1_0_0_wf := by decide

/-- Dropping a unit last axis. -/
theorem drop_unit (v : Cert.Pre_separated.S4x2048x1.Idx → EReal) (h : Cert.Pre_separated.S4x2048x1.ShapeCasts Cert.Pre_separated.S4x2048)
    (b : Fin 4) (n : Fin 2048) : shapeCast Cert.Pre_separated.S4x2048 v h (ix2 b n) = v (ix3 b n (0 : Fin 1)) := by
  refine shapeCast_apply _ h _ _ ?_
  rw [Shape.rowMajor_val_three, Shape.rowMajor_val_two]
  simp

/-- The column at place `k` of the sorted scores. -/
theorem column (v : (Rows 129).Idx → EReal) (k : ℕ) (hk : k < 129) (h : (Rows 129).Slices ![0, 0, k] Cert.Pre_separated.S4x2048x1)
    (b : Fin 4) (n : Fin 2048) :
    extractStridedSlice Cert.Pre_separated.S4x2048x1 ![0, 0, k] v h (ix3 b n (0 : Fin 1)) = v (ix3 b n ⟨k, hk⟩) := by
  refine extractStridedSlice_apply _ _ h _ _ fun a => ?_
  match a with
  | ⟨0, _⟩ => exact (Nat.zero_add _).symm
  | ⟨1, _⟩ => exact (Nat.zero_add _).symm
  | ⟨2, _⟩ => rfl

/-- Two conditions that both hold. -/
theorem both {a a' c c' : EReal} (h : IntOp.andi (Ideal.cmp .ole a a') (Ideal.cmp .oge c c') = 1#1) : a ≤ a' ∧ c' ≤ c := by
  have e : BitVec.ofBool (decide (a ≤ a')) &&& BitVec.ofBool (decide (c' ≤ c)) = 1#1 := h
  by_cases hp : a ≤ a' <;> by_cases hq : c' ≤ c <;> simp_all

variable [Cert.Pre_separated.Facts]

/-- The greatest scores of a row, by the precondition's own operations. -/
def greatest (x : (Rows 2048).Idx → EReal) : (Rows 129).Idx → EReal :=
  (Host.topK (Rows 129) 2 (FloatOps.cmpfTotal (F := Ideal) (φ := .f32) .gt) (Cert.ReferenceIdeal.Read.val_main_v0 (F := Ideal) x)
    Cert.Pre_separated.Facts.sliceFits_S4x2048x2048_S4x2048x129).1

theorem greatest_apply (x : (Rows 2048).Idx → EReal) (b : Fin 4) (n : Fin 2048) (i : Fin 129) :
    greatest x (ix3 b n i) = row x b n (order (row x b n) (i.castLE (by norm_num))) := by
  unfold greatest
  refine (values_apply 129 (by norm_num) _ _ b n i).trans ?_
  rw [scores_apply, show (fun m => Cert.ReferenceIdeal.Read.val_main_v0 (F := Ideal) x (ix3 b n m)) = row x b n from
    funext fun m => scores_apply x b n m]
  rfl

open Cert.Pre_separated Cert.Pre_separated.Facts in
/-- The precondition, of the 128th and the 129th greatest scores. -/
theorem fn_eq (x : FVec Ideal S4x2048x2048 .f32) (y : FVec Ideal S4x2048 .f32) (k l : FVec Ideal S4x2048 .f32)
    (hk : k = shapeCast S4x2048 (extractStridedSlice S4x2048x1 ![0, 0, 127] (greatest x) slices_S4x2048x129_S4x2048x1_0_0_127) shapeCasts_S4x2048x1_S4x2048)
    (hl : l = shapeCast S4x2048 (extractStridedSlice S4x2048x1 ![0, 0, 128] (greatest x) slices_S4x2048x129_S4x2048x1_0_0_128) shapeCasts_S4x2048x1_S4x2048) :
    fn (F := Ideal) x y
      = andi (cmpf .ole (Host.absf k) (broadcastInDim S4x2048 ![] bcast_S_S4x2048 (constant S_ .f32 0x7F7FFFFF#32)))
        (cmpf .oge (subf k l) (mulf (broadcastInDim S4x2048 ![] bcast_S_S4x2048 (constant S_ .f32 0x34000000#32))
          (maximumf (Host.absf k) (broadcastInDim S4x2048 ![] bcast_S_S4x2048 (constant S_ .f32 0x00800000#32))))) := by
  unfold fn
  dsimp only
  subst hk hl
  unfold greatest Cert.ReferenceIdeal.Read.val_main_v0
  rfl

theorem separated (x : (Rows 2048).Idx → EReal) (y : Cert.Pre_separated.S4x2048.Idx → EReal)
    (h : Cert.Pre_separated.fn (F := Ideal) x y = fun _ => 1#1) (b : Fin 4) (n : Fin 2048) : Separated (row x b n) := by
  obtain ⟨k, hk⟩ : ∃ k, k = shapeCast Cert.Pre_separated.S4x2048 (extractStridedSlice Cert.Pre_separated.S4x2048x1 ![0, 0, 127] (greatest x)
    Cert.Pre_separated.Facts.slices_S4x2048x129_S4x2048x1_0_0_127) Cert.Pre_separated.Facts.shapeCasts_S4x2048x1_S4x2048 (ix2 b n) := ⟨_, rfl⟩
  obtain ⟨l, hl⟩ : ∃ l, l = shapeCast Cert.Pre_separated.S4x2048 (extractStridedSlice Cert.Pre_separated.S4x2048x1 ![0, 0, 128] (greatest x)
    Cert.Pre_separated.Facts.slices_S4x2048x129_S4x2048x1_0_0_128) Cert.Pre_separated.Facts.shapeCasts_S4x2048x1_S4x2048 (ix2 b n) := ⟨_, rfl⟩
  have e : IntOp.andi (Ideal.cmp .ole (max k (-k)) (Ideal.ofBits .f32 2139095039#32))
      (Ideal.cmp .oge (k - l) (Ideal.ofBits .f32 872415232#32 * max (max k (-k)) (Ideal.ofBits .f32 8388608#32))) = 1#1 := by
    rw [hk, hl]; exact congrFun ((fn_eq x y _ _ rfl rfl).symm.trans h) (ix2 b n)
  rw [drop_unit, column _ 127 (by norm_num), greatest_apply] at hk
  rw [drop_unit, column _ 128 (by norm_num), greatest_apply] at hl
  subst hk hl
  exact both e

end Cert.Precondition

end
-- ==== Proof.Body.lean ====
/-
  What one point of the kernel computes.

  From its 256 rows `v0`, all 2048 rows `v2` and all states of a batch, the body forms the scores column by column, searches
  in each column, bit by bit, for the word whose float at least 128 scores of the column reach, and sums the softened
  scores that reach it times the states and times the rows. Here each of those is read at an index.
-/
module

public import proofs.«01_k».proof.Proof.Gen.KernelIdeal.Skeleton
public import Idealize.ShloMosaic.PureOps.Ideal
public import Idealize.ShloMosaic.PureOps.Ideal.Laws
public import Idealize.ShloMosaic.Lib.Exec
public import Idealize.ShloMosaic.Lib.Pipeline.Value
public import Idealize.ShloMosaic.Lib.SortKey
public import Idealize.ShloMosaic.Lib.WordSum
public import Idealize.ShloMosaic.Lib.WordCmp
public import proofs.«01_k».proof.Proof.Precondition

@[expose] public section

noncomputable section

namespace Cert.Body

open Idealize.ShloMosaic Idealize.ShloMosaic.ValueIdx Cert.Threshold Cert.Column Cert.KernelIdeal Cert.KernelIdeal.Gen

/-- A column of the point's scores. -/
def col (v0 : FVec Ideal S1x256x2048 .f32) (v2 : FVec Ideal S1x2048x2048 .f32) (n : Fin 256) : Fin 2048 → EReal :=
  fun m => ∑ d : Fin 2048, v2 (ix3 (0 : Fin 1) m d) * v0 (ix3 (0 : Fin 1) n d)

theorem rows_apply (v2 : FVec Ideal S1x2048x2048 .f32) (m d : Fin 2048) :
    k0_pay3 (F := Ideal) v2 (ix2 m d) = v2 (ix3 (0 : Fin 1) m d) := by
  unfold k0_pay3
  refine shapeCast_apply _ _ _ _ ?_
  rw [Shape.rowMajor_val_three, Shape.rowMajor_val_two]
  simp

theorem lhs1 (i : S2048x256.Idx) (q : dot_S2048x2048_S256x2048_S2048x256_1_1_0_0_n_n.contr.Idx) :
    (dot_S2048x2048_S256x2048_S2048x256_1_1_0_0_n_n.lhsIdx i q 0).val = (i 0).val := by
  unfold DotDims.lhsIdx
  rw [dif_neg (show ¬(0 : Fin S2048x2048.rank) ∈ dot_S2048x2048_S256x2048_S2048x256_1_1_0_0_n_n.lhsBatch by decide),
    dif_pos (show (0 : Fin S2048x2048.rank) ∈ dot_S2048x2048_S256x2048_S2048x256_1_1_0_0_n_n.lhsNonContracting by decide)]
  rfl

theorem rhs1 (i : S2048x256.Idx) (q : dot_S2048x2048_S256x2048_S2048x256_1_1_0_0_n_n.contr.Idx) :
    (dot_S2048x2048_S256x2048_S2048x256_1_1_0_0_n_n.rhsIdx i q 0).val = (i 1).val := by
  unfold DotDims.rhsIdx
  rw [dif_neg (show ¬(0 : Fin S256x2048.rank) ∈ dot_S2048x2048_S256x2048_S2048x256_1_1_0_0_n_n.rhsBatch by decide),
    dif_pos (show (0 : Fin S256x2048.rank) ∈ dot_S2048x2048_S256x2048_S2048x256_1_1_0_0_n_n.rhsNonContracting by decide)]
  rfl

/-- The score of `m` in column `n`. -/
theorem scores_apply (v0 : FVec Ideal S1x256x2048 .f32) (v2 : FVec Ideal S1x2048x2048 .f32) (m : Fin 2048) (n : Fin 256) :
    k0_pay4 (F := Ideal) v0 v2 (ix2 m n) = col v0 v2 n m := by
  unfold k0_pay4
  refine (Ideal.matmul_constant_zero_apply _ _ _ _ _).trans ?_
  rw [← Equiv.sum_comp (contrEquiv1 dot_S2048x2048_S256x2048_S2048x256_1_1_0_0_n_n 2048 rfl rfl).symm]
  refine Finset.sum_congr rfl fun d _ => ?_
  have hk := contrEquiv1_symm_val dot_S2048x2048_S256x2048_S2048x256_1_1_0_0_n_n 2048 rfl rfl d
  have el : dot_S2048x2048_S256x2048_S2048x256_1_1_0_0_n_n.lhsIdx (ix2 m n)
      ((contrEquiv1 dot_S2048x2048_S256x2048_S2048x256_1_1_0_0_n_n 2048 rfl rfl).symm d) = ix2 m d := funext fun a => Fin.ext (by
    match a with
    | ⟨0, _⟩ => exact lhs1 _ _
    | ⟨1, _⟩ => exact (dot_S2048x2048_S256x2048_S2048x256_1_1_0_0_n_n.lhsIdx_val_of_single rfl _ _).trans hk)
  have er : dot_S2048x2048_S256x2048_S2048x256_1_1_0_0_n_n.rhsIdx (ix2 m n)
      ((contrEquiv1 dot_S2048x2048_S256x2048_S2048x256_1_1_0_0_n_n 2048 rfl rfl).symm d) = ix2 n d := funext fun a => Fin.ext (by
    match a with
    | ⟨0, _⟩ => exact rhs1 _ _
    | ⟨1, _⟩ => exact (dot_S2048x2048_S256x2048_S2048x256_1_1_0_0_n_n.rhsIdx_val_of_single rfl _ _).trans hk)
  rw [el, er, rows_apply]
  congr 1
  refine shapeCast_apply _ _ _ _ ?_
  rw [Shape.rowMajor_val_three, Shape.rowMajor_val_two]
  simp

/-- A word over the column's indices, seen at every row of the column. -/
theorem over_rows {α : Type} (x : S1x256.Idx → α) (h : S1x256.Broadcasts S2048x256) (m : Fin 2048) (n : Fin 256) :
    broadcastTo S2048x256 x h (ix2 m n) = x (ix2 (0 : Fin 1) n) := by
  refine broadcastTo_apply _ h _ _ fun a => ?_
  match a with
  | ⟨0, _⟩ => rfl
  | ⟨1, _⟩ => rfl

/-- The printed conversion of a search word is its threshold. -/
theorem key_eq (p : BitVec 32) (u : ArithUnit) :
    Ideal.ofBits .f32 (IntOp.xori (IntOp.xori p 2147483648#32)
      (IntOp.andi (IntOp.shrsi u (IntOp.xori p 2147483648#32) 31#32) 2147483647#32)) = thr p := by
  rw [xori_andi_shrsi_eq_sortableKey]; rfl

/-- The bit a trip tries. -/
theorem bit_eq (t : Fin 32) :
    Scalar.shli 1#32 (Scalar.subi 31#32 (Scf.iv 0#32 1#32 t.val)) = BitVec.ofNat 32 (2 ^ (31 - t.val)) := by
  revert t; decide

/-- How many of 2048 conditions hold, as the body counts them. -/
theorem count_apply (p : Fin 2048 → Prop) [DecidablePred p] (x : IVec S2048x256 1) (n : Fin 256)
    (hx : ∀ m, x (ix2 m n) = BitVec.ofBool (decide (p m))) (hr : S2048x256.Reduces [0] S256) (h32 : 1 < 32) :
    (multiReductionI .add [0] S256 (extui 32 x h32) 0#32 hr rfl (ix1 n)).toNat = (Finset.univ.filter p).card := by
  have hs : ∑ i ∈ Finset.univ.filter (fun i => hr.drop i = ix1 n), (extui 32 x h32 i).toNat = (Finset.univ.filter p).card := by
    rw [hr.sum_filter_drop_single (fun i => (extui 32 x h32 i).toNat), Finset.card_filter]
    refine Finset.sum_congr rfl fun m _ => ?_
    have e : hr.lift (ix1 n) m = ix2 (m : Fin 2048) n := by
      funext c; apply Fin.ext; fin_cases c <;> rfl
    refine (congrArg (fun w : BitVec 1 => (w.setWidth 32).toNat) ((congrArg x e).trans (hx m))).trans ?_
    by_cases hp : p m <;> simp [hp]
  rw [WordSum.toNat_multiReductionI_add _ hr rfl _ (by rw [hs]; exact lt_of_le_of_lt (Finset.card_le_univ _) (by simp)), hs]

/-- A choice on a decided condition. -/
theorem select_decide {α : Type} (p : Prop) [Decidable p] (a b : α) :
    Scalar.select (BitVec.ofBool (decide p)) a b = if p then a else b := by
  by_cases hp : p <;> simp [Scalar.select, hp]

/-- One trip's word at a column. -/
def trip (s : Fin 2048 → EReal) (t : Fin 32) (p : BitVec 32) : BitVec 32 :=
  if 128 ≤ (Finset.univ.filter fun m => thr (p ||| BitVec.ofNat 32 (2 ^ (31 - t.val))) ≤ s m).card
  then p ||| BitVec.ofNat 32 (2 ^ (31 - t.val)) else p

theorem trip_apply (v0 : FVec Ideal S1x256x2048 .f32) (v2 : FVec Ideal S1x2048x2048 .f32) (t : Fin 32) (w : IVec S1x256 32) (n : Fin 256) :
    k0_pay6 (F := Ideal) v0 v2 t w (ix2 (0 : Fin 1) n) = trip (col v0 v2 n) t (w (ix2 (0 : Fin 1) n)) := by
  unfold k0_pay6 trip
  dsimp only
  rw [select_apply]
  have hq : ∀ m, cmpf .oge (k0_pay4 (F := Ideal) v0 v2) (broadcastTo S2048x256 (bitcastToFloat (F := Ideal) .f32
      (xori (xori (ori w (broadcast S1x256 (Scalar.shli 1#32 (Scalar.subi 31#32 (Scf.iv 0#32 1#32 t.val))))) (broadcast S1x256 2147483648#32))
        (andi (shrsi (xori (ori w (broadcast S1x256 (Scalar.shli 1#32 (Scalar.subi 31#32 (Scf.iv 0#32 1#32 t.val))))) (broadcast S1x256 2147483648#32))
          (broadcast S1x256 31#32)) (broadcast S1x256 2147483647#32)))) broadcasts_S1x256_S2048x256) (ix2 m n)
      = BitVec.ofBool (decide (thr (w (ix2 (0 : Fin 1) n) ||| BitVec.ofNat 32 (2 ^ (31 - t.val))) ≤ col v0 v2 n m)) := fun m => by
    rw [cmpf_apply, over_rows, scores_apply, ← bit_eq, ← key_eq]
    rfl
  have hc := count_apply _ _ n hq reduces_S2048x256_S256 natLt_1_32
  have hsel : ∀ N : IVec S256 32, (N (ix1 n)).toNat = (Finset.univ.filter fun m =>
        thr (w (ix2 (0 : Fin 1) n) ||| BitVec.ofNat 32 (2 ^ (31 - t.val))) ≤ col v0 v2 n m).card →
      cmpi .sge (shapeCast S1x256 N shapeCasts_S256_S1x256) (broadcast S1x256 128#32) (ix2 (0 : Fin 1) n)
        = BitVec.ofBool (decide (128 ≤ (Finset.univ.filter fun m =>
          thr (w (ix2 (0 : Fin 1) n) ||| BitVec.ofNat 32 (2 ^ (31 - t.val))) ≤ col v0 v2 n m).card)) := fun N hN => by
    have hv : shapeCast S1x256 N shapeCasts_S256_S1x256 (ix2 (0 : Fin 1) n) = N (ix1 n) := by
      refine shapeCast_apply _ _ _ _ ?_
      rw [Shape.rowMajor_val_one, Shape.rowMajor_val_two]
      simp
    show IntOp.cmpi .sge (shapeCast S1x256 N shapeCasts_S256_S1x256 (ix2 (0 : Fin 1) n)) 128#32 = _
    have hle := Finset.card_le_univ (Finset.univ.filter fun m =>
      thr (w (ix2 (0 : Fin 1) n) ||| BitVec.ofNat 32 (2 ^ (31 - t.val))) ≤ col v0 v2 n m)
    rw [Fintype.card_fin] at hle
    rw [hv, WordCmp.cmpi_sge_of_lt (by rw [hN]; omega) (by decide), hN]
    rfl
  rw [hsel _ hc, ← bit_eq]
  exact select_decide _ _ _

/-- The search's word at a column: the column's own search. -/
def found (s : Fin 2048 → EReal) : BitVec 32 := (List.finRange 32).foldl (fun p t => trip s t p) 0#32

/-- A loop whose trips act on a column by `trip` finds the column's word. -/
theorem fold_at {N : ℕ} (hN : N = 32) (g : Fin N → IVec S1x256 32 → IVec S1x256 32) (s : Fin 2048 → EReal) (n : Fin 256)
    (hg : ∀ t w, g t w (ix2 (0 : Fin 1) n) = trip s (t.cast hN) (w (ix2 (0 : Fin 1) n))) (init : IVec S1x256 32)
    (hi : init (ix2 (0 : Fin 1) n) = 0#32) : Scf.fold g init (ix2 (0 : Fin 1) n) = found s := by
  subst hN
  unfold found
  rw [Scf.fold_eq]
  have go : ∀ (l : List (Fin 32)) (w : IVec S1x256 32) (p : BitVec 32), w (ix2 (0 : Fin 1) n) = p →
      (l.foldl (fun acc k => g k acc) w) (ix2 (0 : Fin 1) n) = l.foldl (fun p t => trip s t p) p := by
    intro l
    induction l with
    | nil => exact fun w p h => h
    | cons t l ih => exact fun w p h => ih _ _ ((hg t w).trans (congrArg (trip s t) h))
  exact go _ _ _ hi

/-- The loop's word, of whatever memory operations around it. -/
def words (v0 : FVec Ideal S1x256x2048 .f32) (v2 : FVec Ideal S1x2048x2048 .f32) : IVec S1x256 32 :=
  Scf.fold (k0_pay6 (F := Ideal) v0 v2) k0_pay5

theorem words_apply (v0 : FVec Ideal S1x256x2048 .f32) (v2 : FVec Ideal S1x2048x2048 .f32) (n : Fin 256) :
    words v0 v2 (ix2 (0 : Fin 1) n) = found (col v0 v2 n) := by
  exact fold_at (by decide) _ _ n (fun t w => trip_apply v0 v2 t w n) _ rfl

open Classical in
/-- The point's edges: the softened scores of the chosen. -/
theorem edges_apply (v0 : FVec Ideal S1x256x2048 .f32) (v2 : FVec Ideal S1x2048x2048 .f32) (m : Fin 2048) (n : Fin 256)
    (h : Separated (col v0 v2 n)) :
    k0_pay7 (F := Ideal) v0 v2 (words v0 v2) (ix2 m n)
      = if Chosen (col v0 v2 n) m then Cert.Reference.soft (col v0 v2 n m) else Ideal.ofBits .f32 0#32 := by
  have hch := search_chooses (col v0 v2 n) h (trip (col v0 v2 n)) (fun _ _ => rfl) m
  unfold k0_pay7
  rw [select_apply, cmpf_apply, over_rows, scores_apply]
  have hq : FloatOps.cmpf (F := Ideal) (φ := .f32) .oge (col v0 v2 n m) (bitcastToFloat (F := Ideal) .f32
      (xori (xori (words v0 v2) (broadcast S1x256 2147483648#32))
        (andi (shrsi (xori (words v0 v2) (broadcast S1x256 2147483648#32)) (broadcast S1x256 31#32)) (broadcast S1x256 2147483647#32))) (ix2 (0 : Fin 1) n))
      = BitVec.ofBool (decide (thr (found (col v0 v2 n)) ≤ col v0 v2 n m)) := by
    rw [← words_apply, ← key_eq]; rfl
  rw [hq, select_decide]
  have hs : divf (k0_pay4 (F := Ideal) v0 v2) (addf (broadcast S2048x256 (Scalar.ofBits (F := Ideal) .f32 0x3F800000#32)) (absf (k0_pay4 (F := Ideal) v0 v2))) (ix2 m n)
      = Cert.Reference.soft (col v0 v2 n m) := by
    rw [← scores_apply]; rfl
  rw [hs]
  exact if_congr hch rfl rfl

/-- The states, one per row, seen at every column. -/
theorem states_apply (v24 : FVec Ideal S1x1x2048 .f32) (m : Fin 2048) (n : Fin 256) :
    broadcastTo S2048x256 (transpose S2048x1 [1, 0] (shapeCast S1x2048 v24 shapeCasts_S1x1x2048_S1x2048) transposes_S1x2048_p1_0_S2048x1)
      broadcasts_S2048x1_S2048x256 (ix2 m n) = v24 (ix3 (0 : Fin 1) (0 : Fin 1) m) := by
  refine (broadcastTo_apply _ _ _ (ix2 m (0 : Fin 1)) fun a => ?_).trans ?_
  · match a with
    | ⟨0, _⟩ => rfl
    | ⟨1, _⟩ => rfl
  refine (transpose_apply _ _ _ _ (ix2 (0 : Fin 1) m) fun a => ?_).trans ?_
  · match a with
    | ⟨0, _⟩ => rfl
    | ⟨1, _⟩ => rfl
  refine shapeCast_apply _ _ _ _ ?_
  rw [Shape.rowMajor_val_three, Shape.rowMajor_val_two]
  simp

/-- The point's part of the first result. -/
theorem sums_apply (v0 : FVec Ideal S1x256x2048 .f32) (v2 : FVec Ideal S1x2048x2048 .f32) (w : IVec S1x256 32) (v24 : FVec Ideal S1x1x2048 .f32) (n : Fin 256) :
    k0_pay1 (F := Ideal) (k0_pay8 v0 v2 w v24) (ix4 (0 : Fin 1) (0 : Fin 1) (0 : Fin 1) n)
      = ∑ m : Fin 2048, k0_pay7 (F := Ideal) v0 v2 w (ix2 m n) * v24 (ix3 (0 : Fin 1) (0 : Fin 1) m) := by
  unfold k0_pay1 k0_pay8
  refine (shapeCast_apply _ _ _ (ix1 n) ?_).trans ?_
  · rw [Shape.rowMajor_val_one, Shape.rowMajor_val_four]
    simp
  refine (Ideal.multiReduction_add_single _ _ _ _ _ _).trans ?_
  refine Finset.sum_congr rfl fun m _ => ?_
  have e : (reduces_S2048x256_S256).lift (ix1 n) m = ix2 (m : Fin 2048) n := by
    funext c; apply Fin.ext; fin_cases c <;> rfl
  refine (congrArg _ e).trans ?_
  exact congrArg (k0_pay7 (F := Ideal) v0 v2 w (ix2 (m : Fin 2048) n) * ·) (states_apply v24 m n)

theorem lhs2 (i : S256x2048.Idx) (q : dot_S2048x256_S2048x2048_S256x2048_0_0_1_1_n_n.contr.Idx) :
    (dot_S2048x256_S2048x2048_S256x2048_0_0_1_1_n_n.lhsIdx i q 1).val = (i 0).val := by
  unfold DotDims.lhsIdx
  rw [dif_neg (show ¬(1 : Fin S2048x256.rank) ∈ dot_S2048x256_S2048x2048_S256x2048_0_0_1_1_n_n.lhsBatch by decide),
    dif_pos (show (1 : Fin S2048x256.rank) ∈ dot_S2048x256_S2048x2048_S256x2048_0_0_1_1_n_n.lhsNonContracting by decide)]
  rfl

theorem rhs2 (i : S256x2048.Idx) (q : dot_S2048x256_S2048x2048_S256x2048_0_0_1_1_n_n.contr.Idx) :
    (dot_S2048x256_S2048x2048_S256x2048_0_0_1_1_n_n.rhsIdx i q 1).val = (i 1).val := by
  unfold DotDims.rhsIdx
  rw [dif_neg (show ¬(1 : Fin S2048x2048.rank) ∈ dot_S2048x256_S2048x2048_S256x2048_0_0_1_1_n_n.rhsBatch by decide),
    dif_pos (show (1 : Fin S2048x2048.rank) ∈ dot_S2048x256_S2048x2048_S256x2048_0_0_1_1_n_n.rhsNonContracting by decide)]
  rfl

/-- The point's part of the second result. -/
theorem products_apply (v2 : FVec Ideal S1x2048x2048 .f32) (e : FVec Ideal S2048x256 .f32) (n : Fin 256) (d : Fin 2048) :
    k0_pay2 (F := Ideal) (k0_pay3 v2) e (ix3 (0 : Fin 1) n d) = ∑ m : Fin 2048, e (ix2 m n) * v2 (ix3 (0 : Fin 1) m d) := by
  unfold k0_pay2
  refine (shapeCast_apply _ _ _ (ix2 n d) ?_).trans ?_
  · rw [Shape.rowMajor_val_three, Shape.rowMajor_val_two]
    simp
  refine (Ideal.matmul_constant_zero_apply _ _ _ _ _).trans ?_
  rw [← Equiv.sum_comp (contrEquiv1 dot_S2048x256_S2048x2048_S256x2048_0_0_1_1_n_n 2048 rfl rfl).symm]
  refine Finset.sum_congr rfl fun m _ => ?_
  have hk := contrEquiv1_symm_val dot_S2048x256_S2048x2048_S256x2048_0_0_1_1_n_n 2048 rfl rfl m
  have el : dot_S2048x256_S2048x2048_S256x2048_0_0_1_1_n_n.lhsIdx (ix2 n d)
      ((contrEquiv1 dot_S2048x256_S2048x2048_S256x2048_0_0_1_1_n_n 2048 rfl rfl).symm m) = ix2 m n := funext fun a => Fin.ext (by
    match a with
    | ⟨0, _⟩ => exact (dot_S2048x256_S2048x2048_S256x2048_0_0_1_1_n_n.lhsIdx_val_of_single rfl _ _).trans hk
    | ⟨1, _⟩ => exact lhs2 _ _)
  have er : dot_S2048x256_S2048x2048_S256x2048_0_0_1_1_n_n.rhsIdx (ix2 n d)
      ((contrEquiv1 dot_S2048x256_S2048x2048_S256x2048_0_0_1_1_n_n 2048 rfl rfl).symm m) = ix2 m d := funext fun a => Fin.ext (by
    match a with
    | ⟨0, _⟩ => exact (dot_S2048x256_S2048x2048_S256x2048_0_0_1_1_n_n.rhsIdx_val_of_single rfl _ _).trans hk
    | ⟨1, _⟩ => exact rhs2 _ _)
  rw [el, er, rows_apply]

end Cert.Body

end
-- ==== Proof.Arrays.lean ====
/-
  What the kernel leaves in its result arrays.

  The thirty-two points write disjoint blocks: point `8b + j` the rows `256j … 256j + 255` of batch `b`. So an element of a
  result array is what its own point computed there, and the blocks the point read are the rows and states of its batch.
-/
module

public import proofs.«01_k».proof.Proof.Gen.KernelIdeal.Frame
public import Idealize.ShloMosaic.Lib.Pipeline.Value
public import proofs.«01_k».proof.Proof.Body

@[expose] public section

noncomputable section

namespace Cert.Arrays

open Idealize.ShloMosaic Idealize.ShloMosaic.TcCoe Idealize.ShloMosaic.ValueIdx Idealize.SL.Sem
open Idealize.ShloMosaic.Pipeline (Dat)
open Cert.Column Cert.Body Cert.KernelIdeal Cert.KernelIdeal.Gen

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## What a point leaves in its two staging buffers -/

theorem out3_eq (c : Dev nD) (i : grid0.Coords) (a2 : Memref sig .tc .vmem S1x256x2048 .f32) (h2 : a2.IsWhole)
    (a3 : Memref sig .tc .vmem S1x2048x2048 .f32) (h3 : a3.IsWhole) (a4 : Memref sig .tc .vmem S1x1x2048 .f32) (h4 : a4.IsWhole)
    (a5 : Memref sig .tc .vmem S1x256x2048 .f32) (h5 : a5.IsWhole) (a6 : Memref sig .tc .vmem S1x1x1x256 .f32) (h6 : a6.IsWhole)
    (x0 : FVec Ideal S1x256x2048 .f32) (x1 : FVec Ideal S1x2048x2048 .f32) (x2 : FVec Ideal S1x1x2048 .f32) :
    out0_A_3 (F := Ideal) c i a2 h2 a3 h3 a4 h4 a5 h5 a6 h6 x0 x1 x2 = k0_pay2 (F := Ideal) (k0_pay3 (F := Ideal) x1) (k0_pay7 (F := Ideal) x0 x1 (words x0 x1)) := by
  unfold out0_A_3
  rw [View.read_writes_eq_canon _ _ _ (cover0_A_3 (F := Ideal) c i a2 h2 a3 h3 a4 h4 a5 h5 a6 h6 x0 x1 x2)]
  unfold kernelRun0_A
  dsimp only
  sl_unfold_words
  rw [View.canon_unit_zero zero3]
  simp only [View.readAt_eq_ld, h2.read_unread, h3.read_unread, View.ld_unit_zero (S := S1x256x2048) zero3,
    View.ld_unit_zero (S := S1x2048x2048) zero3]
  rfl

theorem out4_eq (c : Dev nD) (i : grid0.Coords) (a2 : Memref sig .tc .vmem S1x256x2048 .f32) (h2 : a2.IsWhole)
    (a3 : Memref sig .tc .vmem S1x2048x2048 .f32) (h3 : a3.IsWhole) (a4 : Memref sig .tc .vmem S1x1x2048 .f32) (h4 : a4.IsWhole)
    (a5 : Memref sig .tc .vmem S1x256x2048 .f32) (h5 : a5.IsWhole) (a6 : Memref sig .tc .vmem S1x1x1x256 .f32) (h6 : a6.IsWhole)
    (x0 : FVec Ideal S1x256x2048 .f32) (x1 : FVec Ideal S1x2048x2048 .f32) (x2 : FVec Ideal S1x1x2048 .f32) :
    out0_A_4 (F := Ideal) c i a2 h2 a3 h3 a4 h4 a5 h5 a6 h6 x0 x1 x2 = k0_pay1 (F := Ideal) (k0_pay8 (F := Ideal) x0 x1 (words x0 x1) x2) := by
  unfold out0_A_4
  rw [View.read_writes_eq_canon _ _ _ (cover0_A_4 (F := Ideal) c i a2 h2 a3 h3 a4 h4 a5 h5 a6 h6 x0 x1 x2)]
  unfold kernelRun0_A
  dsimp only
  sl_unfold_words
  rw [View.canon_unit_zero zero4]
  simp only [View.readAt_eq_ld, h2.read_unread, h3.read_unread, h4.read_unread, View.ld_unit_zero (S := S1x256x2048) zero3,
    View.ld_unit_zero (S := S1x2048x2048) zero3, View.ld_unit_zero (S := S1x1x2048) zero3]
  rfl

/-! ## The points and their blocks -/

/-- The point of rows `256j …` of batch `b`. -/
def point (b : Fin 4) (j : Fin 8) : Fin grid0.N := ⟨8 * b.val + j.val, by have h : grid0.N = 32 := N_0; omega⟩

/-- The row `r` of the point's 256. -/
def rowOf (j : Fin 8) (r : Fin 256) : Fin 2048 := ⟨256 * j.val + r.val, by omega⟩

theorem index0 (b : Fin 4) (j : Fin 8) : win0_0.index (point b j) = ![b.val, j.val, 0] := by revert b j; decide +kernel
theorem index1 (b : Fin 4) (j : Fin 8) : win0_1.index (point b j) = ![b.val, 0, 0] := by revert b j; decide +kernel
theorem index2 (b : Fin 4) (j : Fin 8) : win0_2.index (point b j) = ![b.val, 0, 0] := by revert b j; decide +kernel
theorem index3 (b : Fin 4) (j : Fin 8) : win0_3.index (point b j) = ![b.val, j.val, 0] := by revert b j; decide +kernel
theorem index4 (b : Fin 4) (j : Fin 8) : win0_4.index (point b j) = ![b.val, j.val, 0, 0] := by revert b j; decide +kernel

variable (m : (ℓ : Loc nD τ sig) → Buf (Elt Ideal) ℓ)

/-- The rows' argument and the states'. -/
abbrev argX (c : Dev nD) : S4x2048x2048.Idx → EReal := m ((c : Thread nD τ).loc main_arg0)
abbrev argY (c : Dev nD) : S4x2048.Idx → EReal := m ((c : Thread nD τ).loc main_arg1)

theorem block0 (c : Dev nD) (b : Fin 4) (j : Fin 8) (r : Fin 256) (d : Fin 2048) :
    iblk m c 0 (point b j) (ix3 (0 : Fin 1) r d) = argX m c (ix3 b (rowOf j r) d) := by
  unfold iblk
  rw [View.read_apply]
  show V m c main_arg0 _ = _
  rw [V_main_arg0]
  refine congrArg (argX m c) (funext fun a => Fin.ext ?_)
  refine (win0_0.rect_emb_val (point b j) _ a).trans ?_
  rw [index0]
  match a with
  | ⟨0, _⟩ => show b.val * 1 + 0 = b.val; omega
  | ⟨1, _⟩ => show j.val * 256 + r.val = 256 * j.val + r.val; omega
  | ⟨2, _⟩ => show 0 * 2048 + d.val = d.val; omega

theorem block1 (c : Dev nD) (b : Fin 4) (j : Fin 8) (n d : Fin 2048) :
    iblk m c 1 (point b j) (ix3 (0 : Fin 1) n d) = argX m c (ix3 b n d) := by
  unfold iblk
  rw [View.read_apply]
  show V m c main_arg0 _ = _
  rw [V_main_arg0]
  refine congrArg (argX m c) (funext fun a => Fin.ext ?_)
  refine (win0_1.rect_emb_val (point b j) _ a).trans ?_
  rw [index1]
  match a with
  | ⟨0, _⟩ => show b.val * 1 + 0 = b.val; omega
  | ⟨1, _⟩ => show 0 * 2048 + n.val = n.val; omega
  | ⟨2, _⟩ => show 0 * 2048 + d.val = d.val; omega

/-- The states as the region finds them: reshaped. -/
theorem states (c : Dev nD) (b : Fin 4) (n : Fin 2048) : V m c main_call0_v0 (ix3 b (0 : Fin 1) n) = argY m c (ix2 b n) := by
  have e : V m c main_call0_v0 = shapeCast S4x1x2048 (argY m c) shapeCasts_S4x2048_S4x1x2048 := rfl
  rw [e]
  refine shapeCast_apply _ _ _ _ ?_
  rw [Shape.rowMajor_val_three, Shape.rowMajor_val_two]
  simp

theorem block2 (c : Dev nD) (b : Fin 4) (j : Fin 8) (n : Fin 2048) :
    iblk m c 2 (point b j) (ix3 (0 : Fin 1) (0 : Fin 1) n) = argY m c (ix2 b n) := by
  unfold iblk
  rw [View.read_apply, ← states]
  refine congrArg (V m c main_call0_v0) (funext fun a => Fin.ext ?_)
  refine (win0_2.rect_emb_val (point b j) _ a).trans ?_
  rw [index2]
  match a with
  | ⟨0, _⟩ => show b.val * 1 + 0 = b.val; omega
  | ⟨1, _⟩ => rfl
  | ⟨2, _⟩ => show 0 * 2048 + n.val = n.val; omega

/-! ## The result arrays, element by element -/

/-- The point's column of scores is the row of scores of its own index. -/
theorem column_eq (c : Dev nD) (b : Fin 4) (j : Fin 8) (r : Fin 256) :
    col (iblk m c 0 (point b j)) (iblk m c 1 (point b j)) r = Cert.Reference.row (argX m c) b (rowOf j r) := by
  funext k
  unfold col Cert.Reference.row
  rw [Cert.TopK.score_comm]
  unfold Cert.TopK.score
  exact Finset.sum_congr rfl fun d _ => congrArg₂ (· * ·) (block1 m c b j k d) (block0 m c b j r d)

/-- The point's edges are the reference's. -/
theorem edges_eq (c : Dev nD) (b : Fin 4) (j : Fin 8) (r : Fin 256) (k : Fin 2048)
    (h : Separated (Cert.Reference.row (argX m c) b (rowOf j r))) :
    k0_pay7 (F := Ideal) (iblk m c 0 (point b j)) (iblk m c 1 (point b j)) (words (iblk m c 0 (point b j)) (iblk m c 1 (point b j))) (ix2 k r)
      = Cert.Reference.edge (argX m c) b (rowOf j r) k := by
  rw [edges_apply _ _ k r (by rw [column_eq]; exact h), column_eq]
  rfl

theorem apart3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h =>
    hne ((by decide +kernel : ∀ t t' : Fin grid0.N, win0_3.index t = win0_3.index t' → t = t') t t' h)

theorem apart4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h =>
    hne ((by decide +kernel : ∀ t t' : Fin grid0.N, win0_4.index t = win0_4.index t' → t = t') t t' h)

/-- The second result. -/
theorem rows_final (c : Dev nD) (b : Fin 4) (j : Fin 8) (r : Fin 256) (d : Fin 2048)
    (h : Separated (Cert.Reference.row (argX m c) b (rowOf j r))) :
    (dats m 0 c).arrAt 3 cfg0.N (ix3 b (rowOf j r) d)
      = ∑ k : Fin 2048, Cert.Reference.edge (argX m c) b (rowOf j r) k * argX m c (ix3 b k d) := by
  have hr := congrFun ((dats m 0 c).read_blk_arrAt_eq_flushed 3 apart3 cfg0.N (point b j) (point b j).isLt (flush0_3 _)) (ix3 (0 : Fin 1) r d)
  rw [View.read_apply] at hr
  have he : ((cfg0.win 3).blk (point b j)).view.emb (ix3 (0 : Fin 1) r d) = ix3 b (rowOf j r) d := by
    refine funext fun a => Fin.ext ?_
    refine (win0_3.rect_emb_val (point b j) _ a).trans ?_
    rw [index3]
    match a with
    | ⟨0, _⟩ => show b.val * 1 + 0 = b.val; omega
    | ⟨1, _⟩ => show j.val * 256 + r.val = 256 * j.val + r.val; omega
    | ⟨2, _⟩ => show 0 * 2048 + d.val = d.val; omega
  have hf : (dats m 0 c).flushed 3 (point b j) (ix3 (0 : Fin 1) r d)
      = k0_pay2 (F := Ideal) (k0_pay3 (F := Ideal) (iblk m c 1 (point b j)))
        (k0_pay7 (F := Ideal) (iblk m c 0 (point b j)) (iblk m c 1 (point b j)) (words (iblk m c 0 (point b j)) (iblk m c 1 (point b j))))
        (ix3 (0 : Fin 1) r d) := by
    show (cfg0.win 3).cut (grid0.coords (point b j)) ((dats m 0 c).after 3 (point b j)) (ix3 (0 : Fin 1) r d) = _
    rw [after0_3]
    unfold outsAt0
    dsimp only
    rw [out3_eq]
    rfl
  refine (congrArg ((dats m 0 c).arrAt 3 cfg0.N) he).symm.trans (hr.trans (hf.trans ?_))
  refine (products_apply _ _ r d).trans ?_
  exact Finset.sum_congr rfl fun k _ => congrArg₂ (· * ·) (edges_eq m c b j r k h) (block1 m c b j k d)

/-- The first result, before its reshape. -/
theorem states_final (c : Dev nD) (b : Fin 4) (j : Fin 8) (r : Fin 256)
    (h : Separated (Cert.Reference.row (argX m c) b (rowOf j r))) :
    (dats m 0 c).arrAt 4 cfg0.N (ix4 b j (0 : Fin 1) r)
      = ∑ k : Fin 2048, Cert.Reference.edge (argX m c) b (rowOf j r) k * argY m c (ix2 b k) := by
  have hr := congrFun ((dats m 0 c).read_blk_arrAt_eq_flushed 4 apart4 cfg0.N (point b j) (point b j).isLt (flush0_4 _))
    (ix4 (0 : Fin 1) (0 : Fin 1) (0 : Fin 1) r)
  rw [View.read_apply] at hr
  have he : ((cfg0.win 4).blk (point b j)).view.emb (ix4 (0 : Fin 1) (0 : Fin 1) (0 : Fin 1) r) = ix4 b j (0 : Fin 1) r := by
    refine funext fun a => Fin.ext ?_
    refine (win0_4.rect_emb_val (point b j) _ a).trans ?_
    rw [index4]
    match a with
    | ⟨0, _⟩ => show b.val * 1 + 0 = b.val; omega
    | ⟨1, _⟩ => show j.val * 1 + 0 = j.val; omega
    | ⟨2, _⟩ => rfl
    | ⟨3, _⟩ => show 0 * 256 + r.val = r.val; omega
  have hf : (dats m 0 c).flushed 4 (point b j) (ix4 (0 : Fin 1) (0 : Fin 1) (0 : Fin 1) r)
      = k0_pay1 (F := Ideal) (k0_pay8 (F := Ideal) (iblk m c 0 (point b j)) (iblk m c 1 (point b j))
        (words (iblk m c 0 (point b j)) (iblk m c 1 (point b j))) (iblk m c 2 (point b j)))
        (ix4 (0 : Fin 1) (0 : Fin 1) (0 : Fin 1) r) := by
    show (cfg0.win 4).cut (grid0.coords (point b j)) ((dats m 0 c).after 4 (point b j)) (ix4 (0 : Fin 1) (0 : Fin 1) (0 : Fin 1) r) = _
    rw [after0_4]
    unfold outsAt0
    dsimp only
    rw [out4_eq]
    rfl
  refine (congrArg ((dats m 0 c).arrAt 4 cfg0.N) he).symm.trans (hr.trans (hf.trans ?_))
  refine (sums_apply _ _ _ _ r).trans ?_
  exact Finset.sum_congr rfl fun k _ => congrArg₂ (· * ·) (edges_eq m c b j r k h) (block2 m c b j k)

/-- Every row is a row of some point. -/
theorem exists_row (n : Fin 2048) : ∃ (j : Fin 8) (r : Fin 256), n = rowOf j r :=
  ⟨⟨n.val / 256, by omega⟩, ⟨n.val % 256, by omega⟩, Fin.ext (by show n.val = 256 * (n.val / 256) + n.val % 256; omega)⟩

/-! ## The run -/

/-- The first result is the sums' array reshaped. -/
theorem tail_eq (c : Dev nD) :
    Pipeline.afterTail₀ cfgs (dats m) 0 (V0 m) [hostOps1] c main_v0_0
      = shapeCast S4x2048 ((dats m 0 c).arrAt 4 cfg0.N) shapeCasts_S4x8x1x256_S4x2048 := by
  unfold Pipeline.afterTail₀
  have e := Pipeline.withArrays_arr_shared (cfgs 0).spec c (V0 m c) (fun w => (dats m 0 c).arrAt w (cfgs 0).N)
    ((dats m 0 c).arrAt_sharedIn sharedIn0 (V0 m c) (A_eq m c) (cfgs 0).N) 4
  refine Eq.trans ?_ (congrArg (fun a => shapeCast S4x2048 a shapeCasts_S4x8x1x256_S4x2048) e)
  simp only [hostOps1, List.flatten_cons, List.flatten_nil, List.append_nil, StableHlo.after_cons, StableHlo.after_nil]
  exact StableHlo.reshape_result _ _ _ _ _ _ _

/-- The final state of the kernel, the two results at the reference's terms. -/
theorem run (ρ : Dev nD → PrngReg) (hs : ∀ c b n, Separated (Cert.Reference.row (argX m c) b n)) :
    θ_run (defs (F := Ideal)) (onTc (τ := τ) (main (F := Ideal))) ⟨m, fun _ => 0, ρ⟩ (fun r => ∀ c : Dev nD,
      r.2.mem ((c.tc : Thread nD τ).loc main_v0_0) = Cert.ReferenceIdeal.Read.val_main_v34 (F := Ideal) (argX m c) (argY m c)
      ∧ r.2.mem ((c.tc : Thread nD τ).loc main_v0_1) = Cert.ReferenceIdeal.Read.val_main_v35 (F := Ideal) (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_, ?_⟩) (run_main m ρ)
  · refine ((h c).2 main_v0_0 (Pipeline.mem_restRefs_of main_v0_0 (by decide) (by decide))).trans ((tail_eq m c).trans (funext fun i => ?_))
    obtain ⟨b, n, rfl⟩ : ∃ (b : Fin 4) (n : Fin 2048), i = ix2 b n := ⟨i 0, i 1, funext fun a => by fin_cases a <;> rfl⟩
    obtain ⟨j, r, rfl⟩ := exists_row n
    rw [Cert.Reference.states_apply, ← states_final m c b j r (hs c b _)]
    refine shapeCast_apply _ _ _ _ ?_
    show (S4x8x1x256.rowMajor (ix4 b j (0 : Fin 1) r)).val = (S4x2048.rowMajor (ix2 b (rowOf j r))).val
    rw [Shape.rowMajor_val_four, Shape.rowMajor_val_two]
    show ((b.val * 8 + j.val) * 1 + 0) * 256 + r.val = b.val * 2048 + (256 * j.val + r.val)
    omega
  · refine ((h c).1 3).trans (funext fun i => ?_)
    obtain ⟨b, n, d, rfl⟩ : ∃ (b : Fin 4) (n d : Fin 2048), i = ix3 b n d := ⟨i 0, i 1, i 2, funext fun a => by fin_cases a <;> rfl⟩
    obtain ⟨j, r, rfl⟩ := exists_row n
    rw [Cert.Reference.rows_apply]
    exact rows_final m c b j r d (hs c b _)
  · exact ((h c).1 1).trans (((dats m 0 c).arrAt_in 1 rfl _).trans ((A_eq m c 1).trans (V_main_arg0 m c)))
  · exact ((h c).2 main_arg1 (Pipeline.mem_restRefs_of main_arg1 (by decide) (by decide))).trans (W_main_arg1 m (dats m) c)

end Cert.Arrays

end
-- ==== Proof.lean ====
/-
  The claim, assembled: the frames from the generated runs, the value claim from the kernel's final arrays and the
  reference's results read element by element.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Arrays
public import Idealize.ShloMosaic.Adequacy
public import Idealize.ShloMosaic.Init

@[expose] public section

noncomputable section

namespace Cert.Proof

open Idealize.ShloMosaic Idealize.SL.Sem Cert.Kernel

/-- The reference's frame. -/
theorem reference_frame : Cert.quiescent_ReferenceIdeal :=
  fun m ρ _ => (θ_run Cert.ReferenceIdeal.defs _ _).mono
    (fun r h => ⟨fun c => (h c).2.2, sem_eq_zero_of_no_sems (by decide) r.2⟩) (Cert.ReferenceIdeal.Value.run (F := Ideal) m ρ)

/-- Where every row's 128th greatest score stands apart, the kernel's two results are the reference's. -/
theorem values : Cert.algebraic_KernelIdeal_ReferenceIdeal_pre_separated (hPre_separated := Cert.Precondition.facts) := by
  intro m g m' g' hpre hagree
  refine ⟨fun c => Cert.ReferenceIdeal.Read.val_main_v34 (F := Ideal) (Cert.Arrays.argX m c) (Cert.Arrays.argY m c),
    fun c => Cert.ReferenceIdeal.Read.val_main_v35 (F := Ideal) (Cert.Arrays.argX m c),
    Cert.Arrays.run m g fun c b n => ?_, (θ_run Cert.ReferenceIdeal.defs _ _).mono (fun r h c => ⟨?_, ?_, (h c).2.2⟩)
      (Cert.ReferenceIdeal.Value.run (F := Ideal) m' g')⟩
  · letI := Cert.Precondition.facts
    exact Cert.Precondition.separated _ _ (hpre c) b n
  · refine (h c).1.trans ((Cert.ReferenceIdeal.Read.val_main_v34_eq (F := Ideal) _ _).trans ?_)
    rw [(hagree c).1, (hagree c).2]
  · refine (h c).2.1.trans ((Cert.ReferenceIdeal.Read.val_main_v35_eq (F := Ideal) _).trans ?_)
    rw [(hagree c).1]

theorem claim : Cert.Claim :=
  ⟨Cert.Kernel.Gen.facts, Cert.KernelIdeal.Gen.facts, Cert.ReferenceIdeal.Gen.facts, Cert.Precondition.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, values⟩

end Cert.Proof

end
